-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moments_of_finite [hPre_moments_of_finite : Cert.Pre_moments_of_finite.Facts] (m : (ℓ : Loc Cert.KernelIdeal.nD Cert.KernelIdeal.τ Cert.KernelIdeal.sig) → Buf (Elt Ideal) ℓ) : Prop :=
  ∀ c : Dev Cert.KernelIdeal.nD,
    (Cert.Pre_moments_of_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moments_of_finite [hPre_moments_of_finite : Cert.Pre_moments_of_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moments_of_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_moments_of_finite [hKernelIdeal : Cert.KernelIdeal.Facts] [hPre_moments_of_finite : Cert.Pre_moments_of_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moments_of_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_moments_of_finite [hReferenceIdeal : Cert.ReferenceIdeal.Facts] [hPre_moments_of_finite : Cert.Pre_moments_of_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moments_of_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_moments_of_finite [hKernelIdeal : Cert.KernelIdeal.Facts] [hReferenceIdeal : Cert.ReferenceIdeal.Facts] [hPre_moments_of_finite : Cert.Pre_moments_of_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moments_of_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_moments_of_finite : Cert.Pre_moments_of_finite.Facts),
    quiescent_Kernel (hKernel := hKernel)
    ∧ quiescent_KernelIdeal (hKernelIdeal := hKernelIdeal)
    ∧ quiescent_KernelIdeal_pre_moments_of_finite (hKernelIdeal := hKernelIdeal) (hPre_moments_of_finite := hPre_moments_of_finite)
    ∧ quiescent_ReferenceIdeal (hReferenceIdeal := hReferenceIdeal)
    ∧ quiescent_ReferenceIdeal_pre_moments_of_finite (hReferenceIdeal := hReferenceIdeal) (hPre_moments_of_finite := hPre_moments_of_finite)
    ∧ preserves_Kernel_KernelIdeal
    ∧ algebraic_KernelIdeal_ReferenceIdeal_pre_moments_of_finite (hKernelIdeal := hKernelIdeal) (hReferenceIdeal := hReferenceIdeal) (hPre_moments_of_finite := hPre_moments_of_finite)
-- ==== Pre_moments_of_finite.lean ====
abbrev S8x65536 : Shape := ⟨2, ![8, 65536]⟩
abbrev S1x65536 : Shape := ⟨2, ![1, 65536]⟩
abbrev S8x128 : Shape := ⟨2, ![8, 128]⟩
abbrev S64x6 : Shape := ⟨2, ![64, 6]⟩
abbrev S64 : Shape := ⟨1, ![64]⟩
abbrev S32x64 : Shape := ⟨2, ![32, 64]⟩
abbrev S32 : Shape := ⟨1, ![32]⟩
abbrev S6x65536 : Shape := ⟨2, ![6, 65536]⟩
abbrev S_ : Shape := ⟨0, ![]⟩
abbrev S6x6 : Shape := ⟨2, ![6, 6]⟩
abbrev S65536x6 : Shape := ⟨2, ![65536, 6]⟩
abbrev S6x1 : Shape := ⟨2, ![6, 1]⟩
abbrev S6 : Shape := ⟨1, ![6]⟩

class Facts : Prop where
  slices_S8x65536_S6x65536_0_0 : S8x65536.Slices ![0, 0] S6x65536
  bcast_S_S6x65536 : S_.BroadcastsInDim S6x65536 (![] : Fin 0 → Fin S6x65536.rank)
  reducesTo_S6x65536_S_d0_1 : S6x65536.ReducesTo [0, 1] S_
  h_S_ : 0 < S_.numel
  bcast_S_S64x6 : S_.BroadcastsInDim S64x6 (![] : Fin 0 → Fin S64x6.rank)
  reducesTo_S64x6_S_d0_1 : S64x6.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  slices_S8x128_S6x6_0_0 : S8x128.Slices ![0, 0] S6x6
  transposes_S6x65536_S65536x6_1_0 : S6x65536.Transposes [1, 0] S65536x6
  reducesTo_S6x6_S_d0_1 : S6x6.ReducesTo [0, 1] S_
  slices_S8x128_S6x1_0_8 : S8x128.Slices ![0, 8] S6x1
  shapeCasts_S6x1_S6 : S6x1.ShapeCasts S6
  reducesTo_S6x65536_S6_d1 : S6x65536.ReducesTo [1] S6
  reducesTo_S6_S_d0 : S6.ReducesTo [0] S_
  dot_S6x65536_S65536x6_S6x6_1_0_0_1_n_n_wf : DotDims.WF S6x65536 S65536x6 S6x6 [1] [0] [0] [1] [] []

variable [Facts]

def dot_S6x65536_S65536x6_S6x6_1_0_0_1_n_n : DotDims S6x65536 S65536x6 S6x6 where
  lhsContracting := [1]
  rhsContracting := [0]
  lhsNonContracting := [0]
  rhsNonContracting := [1]
  lhsBatch := []
  rhsBatch := []
  wf := dot_S6x65536_S65536x6_S6x6_1_0_0_1_n_n_wf
def fn_part3 {F : FTy → Type} [FloatOps F] (main_v0 : FVec F S6x65536 .f32) (main_v45 : IVec S_ 1) (main_v50 : IVec S_ 1) (main_v51 : FVec F S6x1 .f32) : IVec S_ 1 :=
  let main_v52 : FVec F S6 .f32 := shapeCast S6 main_v51 shapeCasts_S6x1_S6
  let main_cst_18 : FVec F S_ .f32 := constant S_ .f32 0x00000000#32
  let main_v53 : FVec F S6 .f32 := (fun x v => Host.reduceAdd x v reducesTo_S6x65536_S6_d1 h_S_) main_v0 main_cst_18
  let main_v54 : IVec S6 1 := cmpf .oeq main_v52 main_v53
  let main_c_19 : IVec S_ 1 := constantI S_ 1 1#1
  let main_v55 : IVec S_ 1 := (fun x v => Host.reduce IntOp.andi x v reducesTo_S6_S_d0 h_S_) main_v54 main_c_19
  let main_v56 : IVec S_ 1 := andi main_v45 main_v50
  let main_v57 : IVec S_ 1 := andi main_v56 main_v55
  main_v57

def fn_part2 {F : FTy → Type} [FloatOps F] (main_arg2 : FVec F S8x128 .f32) (main_arg9 : FVec F S32 .f32) (main_arg10 : FVec F S32 .f32) (main_v0 : FVec F S6x65536 .f32) (main_v30 : IVec S_ 1) (main_v33 : IVec S32 1) : IVec S_ 1 :=
  let main_c_12 : IVec S_ 1 := constantI S_ 1 1#1
  let main_v34 : IVec S_ 1 := (fun x v => Host.reduce IntOp.andi x v reducesTo_S32_S_d0 h_S_) main_v33 main_c_12
  let main_v35 : IVec S_ 1 := andi main_v30 main_v34
  let main_v36 : FVec F S32 .f32 := Host.absf main_arg9
  let main_cst_13 : FVec F S_ .f32 := constant S_ .f32 0x7F800000#32
  let main_v37 : FVec F S32 .f32 := broadcastInDim S32 ![] bcast_S_S32 main_cst_13
  let main_v38 : IVec S32 1 := cmpf .olt main_v36 main_v37
  let main_c_14 : IVec S_ 1 := constantI S_ 1 1#1
  let main_v39 : IVec S_ 1 := (fun x v => Host.reduce IntOp.andi x v reducesTo_S32_S_d0 h_S_) main_v38 main_c_14
  let main_v40 : IVec S_ 1 := andi main_v35 main_v39
  let main_v41 : FVec F S32 .f32 := Host.absf main_arg10
  let main_cst_15 : FVec F S_ .f32 := constant S_ .f32 0x7F800000#32
  let main_v42 : FVec F S32 .f32 := broadcastInDim S32 ![] bcast_S_S32 main_cst_15
  let main_v43 : IVec S32 1 := cmpf .olt main_v41 main_v42
  let main_c_16 : IVec S_ 1 := constantI S_ 1 1#1
  let main_v44 : IVec S_ 1 := (fun x v => Host.reduce IntOp.andi x v reducesTo_S32_S_d0 h_S_) main_v43 main_c_16
  let main_v45 : IVec S_ 1 := andi main_v40 main_v44
  let main_v46 : FVec F S6x6 .f32 := (extractStridedSlice S6x6 ![0, 0] · slices_S8x128_S6x6_0_0) main_arg2
  let main_v47 : FVec F S65536x6 .f32 := (transpose S65536x6 [1, 0] · transposes_S6x65536_S65536x6_1_0) main_v0
  let main_v48 : FVec F S6x6 .f32 := (fun l r => Host.dotGeneral dot_S6x65536_S65536x6_S6x6_1_0_0_1_n_n none l r) main_v0 main_v47
  let main_v49 : IVec S6x6 1 := cmpf .oeq main_v46 main_v48
  let main_c_17 : IVec S_ 1 := constantI S_ 1 1#1
  let main_v50 : IVec S_ 1 := (fun x v => Host.reduce IntOp.andi x v reducesTo_S6x6_S_d0_1 h_S_) main_v49 main_c_17
  let main_v51 : FVec F S6x1 .f32 := (extractStridedSlice S6x1 ![0, 8] · slices_S8x128_S6x1_0_8) main_arg2
  fn_part3 (F := F) main_v0 main_v45 main_v50 main_v51

def fn_part1 {F : FTy → Type} [FloatOps F] (main_arg2 : FVec F S8x128 .f32) (main_arg6 : FVec F S64 .f32) (main_arg7 : FVec F S32x64 .f32) (main_arg8 : FVec F S32 .f32) (main_arg9 : FVec F S32 .f32) (main_arg10 : FVec F S32 .f32) (main_v0 : FVec F S6x65536 .f32) (main_v15 : IVec S_ 1) (main_v16 : FVec F S64 .f32) : IVec S_ 1 :=
  let main_cst_5 : FVec F S_ .f32 := constant S_ .f32 0x7F800000#32
  let main_v17 : FVec F S64 .f32 := broadcastInDim S64 ![] bcast_S_S64 main_cst_5
  let main_v18 : IVec S64 1 := cmpf .olt main_v16 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v15 main_v19
  let main_v21 : FVec F S64 .f32 := Host.absf main_arg6
  let main_cst_7 : FVec F S_ .f32 := constant S_ .f32 0x7F800000#32
  let main_v22 : FVec F S64 .f32 := broadcastInDim S64 ![] bcast_S_S64 main_cst_7
  let main_v23 : IVec S64 1 := cmpf .olt main_v21 main_v22
  let main_c_8 : IVec S_ 1 := constantI S_ 1 1#1
  let main_v24 : IVec S_ 1 := (fun x v => Host.reduce IntOp.andi x v reducesTo_S64_S_d0 h_S_) main_v23 main_c_8
  let main_v25 : IVec S_ 1 := andi main_v20 main_v24
  let main_v26 : FVec F S32x64 .f32 := Host.absf main_arg7
  let main_cst_9 : FVec F S_ .f32 := constant S_ .f32 0x7F800000#32
  let main_v27 : FVec F S32x64 .f32 := broadcastInDim S32x64 ![] bcast_S_S32x64 main_cst_9
  let main_v28 : IVec S32x64 1 := cmpf .olt main_v26 main_v27
  let main_c_10 : IVec S_ 1 := constantI S_ 1 1#1
  let main_v29 : IVec S_ 1 := (fun x v => Host.reduce IntOp.andi x v reducesTo_S32x64_S_d0_1 h_S_) main_v28 main_c_10
  let main_v30 : IVec S_ 1 := andi main_v25 main_v29
  let main_v31 : FVec F S32 .f32 := Host.absf main_arg8
  let main_cst_11 : FVec F S_ .f32 := constant S_ .f32 0x7F800000#32
  let main_v32 : FVec F S32 .f32 := broadcastInDim S32 ![] bcast_S_S32 main_cst_11
  let main_v33 : IVec S32 1 := cmpf .olt main_v31 main_v32
  fn_part2 (F := F) main_arg2 main_arg9 main_arg10 main_v0 main_v30 main_v33

def fn {F : FTy → Type} [FloatOps F] (main_arg0 : FVec F S8x65536 .f32) (main_arg1 : FVec F S1x65536 .f32) (main_arg2 : FVec F S8x128 .f32) (main_arg3 : FVec F S64x6 .f32) (main_arg4 : FVec F S64 .f32) (main_arg5 : FVec F S64 .f32) (main_arg6 : FVec F S64 .f32) (main_arg7 : FVec F S32x64 .f32) (main_arg8 : FVec F S32 .f32) (main_arg9 : FVec F S32 .f32) (main_arg10 : FVec F S32 .f32) : IVec S_ 1 :=
  let main_v0 : FVec F S6x65536 .f32 := (extractStridedSlice S6x65536 ![0, 0] · slices_S8x65536_S6x65536_0_0) main_arg0
  let main_v1 : FVec F S6x65536 .f32 := Host.absf main_v0
  let main_cst : FVec F S_ .f32 := constant S_ .f32 0x7F800000#32
  let main_v2 : FVec F S6x65536 .f32 := broadcastInDim S6x65536 ![] bcast_S_S6x65536 main_cst
  let main_v3 : IVec S6x65536 1 := cmpf .olt main_v1 main_v2
  let main_c : IVec S_ 1 := constantI S_ 1 1#1
  let main_v4 : IVec S_ 1 := (fun x v => Host.reduce IntOp.andi x v reducesTo_S6x65536_S_d0_1 h_S_) main_v3 main_c
  let main_c_0 : IVec S_ 1 := constantI S_ 1 1#1
  let main_v5 : IVec S_ 1 := andi main_c_0 main_v4
  let main_v6 : FVec F S64x6 .f32 := Host.absf main_arg3
  let main_cst_1 : FVec F S_ .f32 := constant S_ .f32 0x7F800000#32
  let main_v7 : FVec F S64x6 .f32 := broadcastInDim S64x6 ![] bcast_S_S64x6 main_cst_1
  let main_v8 : IVec S64x6 1 := cmpf .olt main_v6 main_v7
  let main_c_2 : IVec S_ 1 := constantI S_ 1 1#1
  let main_v9 : IVec S_ 1 := (fun x v => Host.reduce IntOp.andi x v reducesTo_S64x6_S_d0_1 h_S_) main_v8 main_c_2
  let main_v10 : IVec S_ 1 := andi main_v5 main_v9
  let main_v11 : FVec F S64 .f32 := Host.absf main_arg4
  let main_cst_3 : FVec F S_ .f32 := constant S_ .f32 0x7F800000#32
  let main_v12 : FVec F S64 .f32 := broadcastInDim S64 ![] bcast_S_S64 main_cst_3
  let main_v13 : IVec S64 1 := cmpf .olt main_v11 main_v12
  let main_c_4 : IVec S_ 1 := constantI S_ 1 1#1
  let main_v14 : IVec S_ 1 := (fun x v => Host.reduce IntOp.andi x v reducesTo_S64_S_d0 h_S_) main_v13 main_c_4
  let main_v15 : IVec S_ 1 := andi main_v10 main_v14
  let main_v16 : FVec F S64 .f32 := Host.absf main_arg5
  fn_part1 (F := F) main_arg2 main_arg6 main_arg7 main_arg8 main_arg9 main_arg10 main_v0 main_v15 main_v16
-- ==== Kernel.lean ====
abbrev S8x65536 : Shape := ⟨2, ![8, 65536]⟩
abbrev S1x65536 : Shape := ⟨2, ![1, 65536]⟩
abbrev S8x128 : Shape := ⟨2, ![8, 128]⟩
abbrev S64x6 : Shape := ⟨2, ![64, 6]⟩
abbrev S64 : Shape := ⟨1, ![64]⟩
abbrev S32x64 : Shape := ⟨2, ![32, 64]⟩
abbrev S32 : Shape := ⟨1, ![32]⟩
abbrev S_ : Shape := ⟨0, ![]⟩
abbrev S64x8 : Shape := ⟨2, ![64, 8]⟩
abbrev S64x1 : Shape := ⟨2, ![64, 1]⟩
abbrev S32x1 : Shape := ⟨2, ![32, 1]⟩
abbrev S8x8192 : Shape := ⟨2, ![8, 8192]⟩
abbrev S1x8192 : Shape := ⟨2, ![1, 8192]⟩
abbrev S32x65536 : Shape := ⟨2, ![32, 65536]⟩
abbrev S32x128 : Shape := ⟨2, ![32, 128]⟩
abbrev S1x1 : Shape := ⟨2, ![1, 1]⟩
abbrev S8x1 : Shape := ⟨2, ![8, 1]⟩
abbrev S8x8 : Shape := ⟨2, ![8, 8]⟩
abbrev S64x8192 : Shape := ⟨2, ![64, 8192]⟩
abbrev S32x8192 : Shape := ⟨2, ![32, 8192]⟩
abbrev S32x64x128 : Shape := ⟨3, ![32, 64, 128]⟩
abbrev S8192 : Shape := ⟨1, ![8192]⟩
abbrev S1x8191 : Shape := ⟨2, ![1, 8191]⟩

abbrev nBuf : Space → Nat
  | .hbm => 21
  | .vmem => 19
  | .smem => 0
  | _ => 0

abbrev bufTy : (tb : Table) → Fin (tcTables nBuf tb) → BufTy
  | .hbm, ⟨0, _⟩ => ⟨S8x65536, .f32⟩
  | .hbm, ⟨1, _⟩ => ⟨S1x65536, .f32⟩
  | .hbm, ⟨2, _⟩ => ⟨S8x128, .f32⟩
  | .hbm, ⟨3, _⟩ => ⟨S64x6, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .i32⟩
  | .hbm, ⟨12, _⟩ => ⟨S_, .f32⟩
  | .hbm, ⟨13, _⟩ => ⟨S64x8, .f32⟩
  | .hbm, ⟨14, _⟩ => ⟨S64x1, .f32⟩
  | .hbm, ⟨15, _⟩ => ⟨S64x1, .f32⟩
  | .hbm, ⟨16, _⟩ => ⟨S64x1, .f32⟩
  | .hbm, ⟨17, _⟩ => ⟨S32x1, .f32⟩
  | .hbm, ⟨18, _⟩ => ⟨S32x1, .f32⟩
  | .hbm, ⟨19, _⟩ => ⟨S32x1, .f32⟩
  | .hbm, ⟨20, _⟩ => ⟨S1x65536, .f32⟩
  | .local _ .vmem, ⟨0, _⟩ => ⟨S8x8192, .f32⟩
  | .local _ .vmem, ⟨1, _⟩ => ⟨S8x8192, .f32⟩
  | .local _ .vmem, ⟨2, _⟩ => ⟨S1x8192, .f32⟩
  | .local _ .vmem, ⟨3, _⟩ => ⟨S1x8192, .f32⟩
  | .local _ .vmem, ⟨4, _⟩ => ⟨S8x128, .f32⟩
  | .local _ .vmem, ⟨5, _⟩ => ⟨S64x8, .f32⟩
  | .local _ .vmem, ⟨6, _⟩ => ⟨S64x1, .f32⟩
  | .local _ .vmem, ⟨7, _⟩ => ⟨S64x1, .f32⟩
  | .local _ .vmem, ⟨8, _⟩ => ⟨S64x1, .f32⟩
  | .local _ .vmem, ⟨9, _⟩ => ⟨S32x64, .f32⟩
  | .local _ .vmem, ⟨10, _⟩ => ⟨S32x1, .f32⟩
  | .local _ .vmem, ⟨11, _⟩ => ⟨S32x1, .f32⟩
  | .local _ .vmem, ⟨12, _⟩ => ⟨S32x1, .f32⟩
  | .local _ .vmem, ⟨13, _⟩ => ⟨S1x8192, .f32⟩
  | .local _ .vmem, ⟨14, _⟩ => ⟨S1x8192, .f32⟩
  | .local _ .vmem, ⟨15, _⟩ => ⟨S32x65536, .f32⟩
  | .local _ .vmem, ⟨16, _⟩ => ⟨S32x128, .f32⟩
  | .local _ .vmem, ⟨17, _⟩ => ⟨S32x128, .f32⟩
  | .local _ .vmem, ⟨18, _⟩ => ⟨S1x1, .f32⟩
  | _, _ => ⟨S8x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let c0_29 : Index := 0#32
  let arg1 : BitVec 32 := BitVec.ofNat 32 (i 1).val
  let c8192_i32 : BitVec 32 := 8192#32
  let v56 : BitVec 32 := Scalar.muli arg1 c8192_i32
  let v57 : Index := Scalar.indexCast v56
  ![0, v57.toNat]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_5 : BitVec 32 := 0#32
  let v10 : BitVec 1 := Scalar.cmpi .ne v9 c0_i32_5
  v10

def k0_off2 (i : grid0.Coords) : Fin 2 → Nat :=
  let c0 : Index := 0#32
  let arg1 : BitVec 32 := BitVec.ofNat 32 (i 1).val
  let c8192_i32 : BitVec 32 := 8192#32
  let v11 : BitVec 32 := Scalar.muli arg1 c8192_i32
  let v12 : Index := Scalar.indexCast v11
  ![0, v12.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]
-- ==== ReferenceIdeal.lean ====
abbrev S8x65536 : Shape := ⟨2, ![8, 65536]⟩
abbrev S1x65536 : Shape := ⟨2, ![1, 65536]⟩
abbrev S8x128 : Shape := ⟨2, ![8, 128]⟩
abbrev S64x6 : Shape := ⟨2, ![64, 6]⟩
abbrev S64 : Shape := ⟨1, ![64]⟩
abbrev S32x64 : Shape := ⟨2, ![32, 64]⟩
abbrev S32 : Shape := ⟨1, ![32]⟩
abbrev S6x65536 : Shape := ⟨2, ![6, 65536]⟩
abbrev S65536x6 : Shape := ⟨2, ![65536, 6]⟩
abbrev S6x64 : Shape := ⟨2, ![6, 64]⟩
abbrev S65536x64 : Shape := ⟨2, ![65536, 64]⟩
abbrev S1x64 : Shape := ⟨2, ![1, 64]⟩
abbrev S_ : Shape := ⟨0, ![]⟩
abbrev S64x32 : Shape := ⟨2, ![64, 32]⟩
abbrev S65536x32 : Shape := ⟨2, ![65536, 32]⟩
abbrev S1x32 : Shape := ⟨2, ![1, 32]⟩
abbrev S65536 : Shape := ⟨1, ![65536]⟩
abbrev S1 : Shape := ⟨1, ![1]⟩
abbrev S1x1 : Shape := ⟨2, ![1, 1]⟩
abbrev S65537 : Shape := ⟨1, ![65537]⟩
abbrev S65538 : Shape := ⟨1, ![65538]⟩

abbrev nBuf : Space → Nat
  | .hbm => 141
  | .vmem => 0
  | .smem => 0
  | _ => 0

abbrev hbmTy0_0 (i : Nat) : BufTy := match i % 128 with
  | 0 => ⟨S8x65536, .f32⟩
  | 1 => ⟨S1x65536, .f32⟩
  | 2 => ⟨S8x128, .f32⟩
  | 3 => ⟨S64x6, .f32⟩
  | 4 => ⟨S64, .f32⟩
  | 5 => ⟨S64, .f32⟩
  | 6 => ⟨S64, .f32⟩
  | 7 => ⟨S32x64, .f32⟩
  | 8 => ⟨S32, .f32⟩
  | 9 => ⟨S32, .f32⟩
  | 10 => ⟨S32, .f32⟩
  | 11 => ⟨S6x65536, .f32⟩
  | 12 => ⟨S65536x6, .f32⟩
  | 13 => ⟨S6x64, .f32⟩
  | 14 => ⟨S65536x64, .f32⟩
  | 15 => ⟨S1x64, .f32⟩
  | 16 => ⟨S65536x64, .f32⟩
  | 17 => ⟨S65536x64, .f32⟩
  | 18 => ⟨S_, .f32⟩
  | 19 => ⟨S64, .f32⟩
  | 20 => ⟨S_, .f32⟩
  | 21 => ⟨S64, .f32⟩
  | 22 => ⟨S64, .f32⟩
  | 23 => ⟨S_, .i32⟩
  | 24 => ⟨S_, .f32⟩
  | 25 => ⟨S64, .f32⟩
  | 26 => ⟨S1x64, .f32⟩
  | 27 => ⟨S_, .f32⟩
  | 28 => ⟨S1x64, .f32⟩
  | 29 => ⟨S1x64, .f32⟩
  | 30 => ⟨S65536x64, .f32⟩
  | 31 => ⟨S65536x64, .f32⟩
  | 32 => ⟨S65536x64, .f32⟩
  | 33 => ⟨S_, .f32⟩
  | 34 => ⟨S_, .f32⟩
  | 35 => ⟨S_, .f32⟩
  | 36 => ⟨S_, .f32⟩
  | 37 => ⟨S64, .f32⟩
  | 38 => ⟨S64, .f32⟩
  | 39 => ⟨S64, .f32⟩
  | 40 => ⟨S_, .f32⟩
  | 41 => ⟨S_, .i1⟩
  | 42 => ⟨S_, .f32⟩
  | 43 => ⟨S_, .f32⟩
  | 44 => ⟨S64, .f32⟩
  | 45 => ⟨S64, .f32⟩
  | 46 => ⟨S1x64, .f32⟩
  | 47 => ⟨S65536x64, .f32⟩
  | 48 => ⟨S65536x64, .f32⟩
  | 49 => ⟨S1x64, .f32⟩
  | 50 => ⟨S65536x64, .f32⟩
  | 51 => ⟨S65536x64, .f32⟩
  | 52 => ⟨S_, .f32⟩
  | 53 => ⟨S64, .f32⟩
  | 54 => ⟨S64, .f32⟩
  | 55 => ⟨S64, .f32⟩
  | 56 => ⟨S1x64, .f32⟩
  | 57 => ⟨S65536x64, .f32⟩
  | 58 => ⟨S65536x64, .f32⟩
  | 59 => ⟨S1x64, .f32⟩
  | 60 => ⟨S65536x64, .f32⟩
  | 61 => ⟨S65536x64, .f32⟩
  | 62 => ⟨S_, .f32⟩
  | 63 => ⟨S65536x64, .f32⟩
  | 64 => ⟨S65536x64, .f32⟩
  | 65 => ⟨S64x32, .f32⟩
  | 66 => ⟨S65536x32, .f32⟩
  | 67 => ⟨S1x32, .f32⟩
  | 68 => ⟨S65536x32, .f32⟩
  | 69 => ⟨S65536x32, .f32⟩
  | 70 => ⟨S_, .f32⟩
  | 71 => ⟨S32, .f32⟩
  | 72 => ⟨S_, .f32⟩
  | 73 => ⟨S32, .f32⟩
  | 74 => ⟨S32, .f32⟩
  | 75 => ⟨S_, .i32⟩
  | 76 => ⟨S_, .f32⟩
  | 77 => ⟨S32, .f32⟩
  | 78 => ⟨S1x32, .f32⟩
  | 79 => ⟨S_, .f32⟩
  | 80 => ⟨S1x32, .f32⟩
  | 81 => ⟨S1x32, .f32⟩
  | 82 => ⟨S65536x32, .f32⟩
  | 83 => ⟨S65536x32, .f32⟩
  | 84 => ⟨S65536x32, .f32⟩
  | 85 => ⟨S_, .f32⟩
  | 86 => ⟨S_, .f32⟩
  | 87 => ⟨S_, .f32⟩
  | 88 => ⟨S_, .f32⟩
  | 89 => ⟨S32, .f32⟩
  | 90 => ⟨S32, .f32⟩
  | 91 => ⟨S32, .f32⟩
  | 92 => ⟨S_, .f32⟩
  | 93 => ⟨S_, .i1⟩
  | 94 => ⟨S_, .f32⟩
  | 95 => ⟨S_, .f32⟩
  | 96 => ⟨S32, .f32⟩
  | 97 => ⟨S32, .f32⟩
  | 98 => ⟨S1x32, .f32⟩
  | 99 => ⟨S65536x32, .f32⟩
  | 100 => ⟨S65536x32, .f32⟩
  | 101 => ⟨S1x32, .f32⟩
  | 102 => ⟨S65536x32, .f32⟩
  | 103 => ⟨S65536x32, .f32⟩
  | 104 => ⟨S_, .f32⟩
  | 105 => ⟨S32, .f32⟩
  | 106 => ⟨S32, .f32⟩
  | 107 => ⟨S32, .f32⟩
  | 108 => ⟨S1x32, .f32⟩
  | 109 => ⟨S65536x32, .f32⟩
  | 110 => ⟨S65536x32, .f32⟩
  | 111 => ⟨S1x32, .f32⟩
  | 112 => ⟨S65536x32, .f32⟩
  | 113 => ⟨S65536x32, .f32⟩
  | 114 => ⟨S_, .f32⟩
  | 115 => ⟨S65536x32, .f32⟩
  | 116 => ⟨S65536x32, .f32⟩
  | 117 => ⟨S_, .f32⟩
  | 118 => ⟨S65536, .f32⟩
  | 119 => ⟨S_, .f32⟩
  | 120 => ⟨S65536, .f32⟩
  | 121 => ⟨S65536, .f32⟩
  | 122 => ⟨S1, .f32⟩
  | 123 => ⟨S1x1, .f32⟩
  | 124 => ⟨S1, .f32⟩
  | 125 => ⟨S65537, .f32⟩
  | 126 => ⟨S_, .f32⟩
  | 127 => ⟨S1, .f32⟩
  | _ => ⟨S8x65536, .f32⟩

abbrev hbmTy0_1 (i : Nat) : BufTy := match i % 128 with
  | 0 => ⟨S_, .f32⟩
  | 1 => ⟨S_, .f32⟩
  | 2 => ⟨S65537, .f32⟩
  | 3 => ⟨S65538, .f32⟩
  | 4 => ⟨S65536, .f32⟩
  | 5 => ⟨S65536, .f32⟩
  | 6 => ⟨S65536, .f32⟩
  | 7 => ⟨S_, .f32⟩
  | 8 => ⟨S65536, .f32⟩
  | 9 => ⟨S65536, .f32⟩
  | 10 => ⟨S65536, .f32⟩
  | 11 => ⟨S65536, .f32⟩
  | 12 => ⟨S1x65536, .f32⟩
  | _ => ⟨S8x65536, .f32⟩

abbrev hbmTy (i : Nat) : BufTy := match i / 128 with
  | 0 => hbmTy0_0 i
  | 1 => hbmTy0_1 i
  | _ => ⟨S8x65536, .f32⟩

abbrev bufTy : (tb : Table) → Fin (tcTables nBuf tb) → BufTy
  | .hbm, ⟨i, _⟩ => hbmTy i
  | _, _ => ⟨S8x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_1 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_2 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_3 : Ref sig .tc := ⟨.hbm, 70, rfl⟩
abbrev main_v33 : Ref sig .tc := ⟨.hbm, 71, rfl⟩
abbrev main_cst_4 : Ref sig .tc := ⟨.hbm, 72, rfl⟩
abbrev main_v34 : Ref sig .tc := ⟨.hbm, 73, rfl⟩
abbrev main_v35 : Ref sig .tc := ⟨.hbm, 74, rfl⟩
abbrev main_c_5 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_cst_2 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_cst_3 : Ref sig .tc := ⟨.hbm, 92, rfl⟩
abbrev main_call1_v12 : Ref sig .tc := ⟨.hbm, 93, rfl⟩
abbrev main_call1_cst_4 : Ref sig .tc := ⟨.hbm, 94, rfl⟩
abbrev main_call1_call0_v0 : Ref sig .tc := ⟨.hbm, 95, rfl⟩
abbrev main_call1_call0_v1 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_cst_6 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_cst_7 : Ref sig .tc := ⟨.hbm, 114, rfl⟩
abbrev main_v52 : Ref sig .tc := ⟨.hbm, 115, rfl⟩
abbrev main_v53 : Ref sig .tc := ⟨.hbm, 116, rfl⟩
abbrev main_cst_8 : Ref sig .tc := ⟨.hbm, 117, rfl⟩
abbrev main_v54 : Ref sig .tc := ⟨.hbm, 118, rfl⟩
abbrev main_cst_9 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_cst_10 : Ref sig .tc := ⟨.hbm, 126, rfl⟩
abbrev main_v61 : Ref sig .tc := ⟨.hbm, 127, rfl⟩
abbrev main_call2_call0_cst : Ref sig .tc := ⟨.hbm, 128, rfl⟩
abbrev main_call2_call0_v0 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_cst_11 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩

abbrev nD : Nat := 1
abbrev τ : Topo := Topo.v7x

variable {F : FTy → Type} [FloatOps F]
-- ==== Proof.KI.Run.lean ====
module

public import proofs.«01_k».proof.Proof.Gen.KernelIdeal.Frame
public import proofs.«01_k».proof.Proof.Gen.KernelIdeal.Skeleton
public import Idealize.ShloMosaic.Lib.VecWindow
public import Idealize.ShloMosaic.Lib.Pipeline.DatRel
public import Idealize.ShloMosaic.Lib.Pipeline.ArrRel

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel cellOf)
open Cert.KernelIdeal.Gen

variable {F : FTy → Type} [FloatOps F]

local notation "𝕄" => MT nD τ sig Unit (Elt F) ℕ (UR sig nD τ) ℕ

/-- The body's first conditional: both grid coordinates are zero. -/
abbrev condInit (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The body's second conditional: the first phase. -/
abbrev condP0 (i : grid0.Coords) : Prop := k0_cond2 i = 1#1
/-- The body's third conditional: the second phase. -/
abbrev condP1 (i : grid0.Coords) : Prop := k0_cond3 i = 1#1

section Loads
variable {sig : RefSig} {κ : Kind} {sp : Space} {s : Shape} {e : EltTy}

/-- A whole-memref load of contents that read `x` is `x`. -/
theorem ld_full {m : Memref sig κ sp s e} (h : m.IsWhole) (x : s.Idx → Elt F e) {off : Fin s.rank → ℕ} (inb : ∀ a, off a + s.size a ≤ s.size a) :
    m.view.readAt (Elt F) (Rect.unit off s.size inb).toLoadRect (h.unread x) = x :=
  (View.readAt_full _ _ inb).trans (h.read_unread x)

/-- A load of a window of contents that read `x` is that window of `x`. -/
theorem ld_window {m : Memref sig κ sp s e} (h : m.IsWhole) (x : s.Idx → Elt F e) {off size : Fin s.rank → ℕ} (inb : ∀ a, off a + size a ≤ s.size a) :
    m.view.readAt (Elt F) (Rect.unit off size inb).toLoadRect (h.unread x) = VecWindow.window x off size inb := by
  rw [View.readAt_unit _ _ inb rfl inb, h.read_unread x]

/-- A store of a window over contents that read `x` leaves `x` with the window replaced. -/
theorem st_window {m : Memref sig κ sp s e} (h : m.IsWhole) (x : s.Idx → Elt F e) {off size : Fin s.rank → ℕ} (inb : ∀ a, off a + size a ≤ s.size a)
    (w : (Rect.unit off size inb).shape.Idx → Elt F e) :
    m.view.read (Elt F) (m.view.writes (Elt F) (h.unread x) [⟨Rect.unit off size inb, w⟩]) = VecWindow.put x off size w := by
  rw [View.read_writes_cons_put _ _ inb w [] rfl, View.writes_nil, h.read_unread x]

end Loads

/-- The constant 1/65536 as the body spells it. -/
abbrev invT : F .f32 := Scalar.ofBits .f32 0x37800000#32

/-- The hidden layer's tile: the first layer, its normalisation and the rectifier, of a tile of features. -/
def hidden (x0 : Vec F S8x8192 .f32) (x2 : Vec F S8x128 .f32) (x3 : Vec F S64x8 .f32) (x4 x5 x6 : Vec F S64x1 .f32) : Vec F S64x8192 .f32 :=
  k0_pay9 invT x3 x4 (VecWindow.window x2 ![0, 8] S8x1.size inb_S8x128_S8x1_0_8) (VecWindow.window x2 ![0, 0] S8x8.size inb_S8x128_S8x8_0_0) x0 x5 x6

/-- The window of the kept second layer that a point of the second phase reads. -/
def kept (i : grid0.Coords) (hc : condP1 i) (Z : Vec F S32x65536 .f32) : Vec F S32x8192 .f32 :=
  VecWindow.window Z (k0_off2 i) S32x8192.size (k0_off2_inb i hc)

/-- The averaged tile of the second phase. -/
def comb (z : Vec F S32x8192 .f32) (s q : Vec F S32x128 .f32) (x9 x10 : Vec F S32x1 .f32) : Vec F S1x8192 .f32 :=
  k0_pay10 invT z s q x9 x10

/-- The output tile of the second phase. -/
def outTile (i : grid0.Coords) (z : Vec F S32x8192 .f32) (s q : Vec F S32x128 .f32) (x9 x10 : Vec F S32x1 .f32) (cr : Vec F S1x1 .f32) (x1 : Vec F S1x8192 .f32) : Vec F S1x8192 .f32 :=
  k0_pay7 (comb z s q x9 x10) (k0_pay11 (BitVec.ofNat 32 (i 1).val) invT z s q x9 x10 cr) (k0_pay12 invT z s q x9 x10) x1

set_option maxHeartbeats 4000000 in
/-- The body at the first point: as at the other points of the first phase, the running sums starting from zero. -/
theorem runA (c : Dev nD) (i : grid0.Coords)
    (arg2 : Memref sig .tc .vmem S8x8192 .f32) (harg2 : arg2.IsWhole)
    (arg3 : Memref sig .tc .vmem S1x8192 .f32) (harg3 : arg3.IsWhole)
    (arg4 : Memref sig .tc .vmem S8x128 .f32) (harg4 : arg4.IsWhole)
    (arg5 : Memref sig .tc .vmem S64x8 .f32) (harg5 : arg5.IsWhole)
    (arg6 : Memref sig .tc .vmem S64x1 .f32) (harg6 : arg6.IsWhole)
    (arg7 : Memref sig .tc .vmem S64x1 .f32) (harg7 : arg7.IsWhole)
    (arg8 : Memref sig .tc .vmem S64x1 .f32) (harg8 : arg8.IsWhole)
    (arg9 : Memref sig .tc .vmem S32x64 .f32) (harg9 : arg9.IsWhole)
    (arg10 : Memref sig .tc .vmem S32x1 .f32) (harg10 : arg10.IsWhole)
    (arg11 : Memref sig .tc .vmem S32x1 .f32) (harg11 : arg11.IsWhole)
    (arg12 : Memref sig .tc .vmem S32x1 .f32) (harg12 : arg12.IsWhole)
    (arg13 : Memref sig .tc .vmem S1x8192 .f32) (harg13 : arg13.IsWhole)
    (arg14 : Memref sig .tc .vmem S32x65536 .f32) (harg14 : arg14.IsWhole)
    (arg15 : Memref sig .tc .vmem S32x128 .f32) (harg15 : arg15.IsWhole)
    (arg16 : Memref sig .tc .vmem S32x128 .f32) (harg16 : arg16.IsWhole)
    (arg17 : Memref sig .tc .vmem S1x1 .f32) (harg17 : arg17.IsWhole)
    (hc0 : condInit i) (hc1 : condP0 i) (hc2 : ¬condP1 i)
    (x0 : Vec F S8x8192 .f32) (x1 : Vec F S1x8192 .f32) (x2 : Vec F S8x128 .f32) (x3 : Vec F S64x8 .f32) (x4 : Vec F S64x1 .f32) (x5 : Vec F S64x1 .f32) (x6 : Vec F S64x1 .f32) (x7 : Vec F S32x64 .f32) (x8 : Vec F S32x1 .f32) (x9 : Vec F S32x1 .f32) (x10 : Vec F S32x1 .f32)
    (Z : Vec F S32x65536 .f32) (E : Set ℕ) (K : PUnit → sProp 𝕄) :
    iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ (∃ d, owns (c : Thread nD τ) arg13 fullShare d) ∗ owns (c : Thread nD τ) arg14 fullShare Z ∗ (∃ d, owns (c : Thread nD τ) arg15 fullShare d) ∗ (∃ d, owns (c : Thread nD τ) arg16 fullShare d) ∗ (∃ d, owns (c : Thread nD τ) arg17 fullShare d)
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ (∃ d, owns (c : Thread nD τ) arg13 fullShare d) ∗ owns (c : Thread nD τ) arg14 fullShare (VecWindow.put Z (k0_off1 i) S32x8192.size (k0_pay4 (hidden x0 x2 x3 x4 x5 x6) x7 x8)) ∗ owns (c : Thread nD τ) arg15 fullShare (k0_pay5 (hidden x0 x2 x3 x4 x5 x6) x7 x8 (k0_pay1 (F := F))) ∗ owns (c : Thread nD τ) arg16 fullShare (k0_pay6 (hidden x0 x2 x3 x4 x5 x6) x7 x8 (k0_pay2 (F := F))) ∗ (∃ d, owns (c : Thread nD τ) arg17 fullShare d)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  obtain rfl := harg14.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  have eh : runA.sl.r c arg2 harg2 arg4 harg4 arg5 harg5 arg6 harg6 arg7 harg7 arg8 harg8 x0 x2 x3 x4 x5 x6 = hidden x0 x2 x3 x4 x5 x6 := by
    unfold runA.sl.r hidden
    exact congr (congr (congr (congr (congr (congr (congrArg (k0_pay9 invT) (ld_full harg5 x3 _)) (ld_full harg6 x4 _)) (ld_window harg4 x2 _)) (ld_window harg4 x2 _)) (ld_full harg2 x0 _)) (ld_full harg7 x5 _)) (ld_full harg8 x6 _)
  isplitl [H11]
  · iexists _, _; isplitr; swap; · iexact H11
    ipureintro; rfl
  isplitl [HS0]
  · iexists _; isplitr
    swap; · iexact HS0
    ipureintro
    exact (st_window harg14 Z _ _).trans (congrArg (VecWindow.put Z (k0_off1 i) S32x8192.size) (congr (congr (congrArg k0_pay4 eh) (ld_full harg9 x7 _)) (ld_full harg10 x8 _)))
  isplitl [HS1]
  · iexists _; isplitr
    swap; · iexact HS1
    ipureintro
    refine (View.read_writes_full _ _ _ _ _).trans ?_
    exact congr (congr (congr (congrArg k0_pay5 eh) (ld_full harg9 x7 _)) (ld_full harg10 x8 _)) (View.readCov_full _ _ _ _ _)
  isplitl [HS2]
  · iexists _; isplitr
    swap; · iexact HS2
    ipureintro
    refine (View.read_writes_full _ _ _ _ _).trans ?_
    exact congr (congr (congr (congrArg k0_pay6 eh) (ld_full harg9 x7 _)) (ld_full harg10 x8 _)) (View.readCov_full _ _ _ _ _)
  iexists _, _; isplitr; swap; · iexact HS3
  ipureintro; rfl

set_option maxHeartbeats 4000000 in
/-- The body at a point of the first phase that is not the first: the tile's second layer is kept in its window, and added to the two running sums. -/
theorem runB (c : Dev nD) (i : grid0.Coords)
    (arg2 : Memref sig .tc .vmem S8x8192 .f32) (harg2 : arg2.IsWhole)
    (arg3 : Memref sig .tc .vmem S1x8192 .f32) (harg3 : arg3.IsWhole)
    (arg4 : Memref sig .tc .vmem S8x128 .f32) (harg4 : arg4.IsWhole)
    (arg5 : Memref sig .tc .vmem S64x8 .f32) (harg5 : arg5.IsWhole)
    (arg6 : Memref sig .tc .vmem S64x1 .f32) (harg6 : arg6.IsWhole)
    (arg7 : Memref sig .tc .vmem S64x1 .f32) (harg7 : arg7.IsWhole)
    (arg8 : Memref sig .tc .vmem S64x1 .f32) (harg8 : arg8.IsWhole)
    (arg9 : Memref sig .tc .vmem S32x64 .f32) (harg9 : arg9.IsWhole)
    (arg10 : Memref sig .tc .vmem S32x1 .f32) (harg10 : arg10.IsWhole)
    (arg11 : Memref sig .tc .vmem S32x1 .f32) (harg11 : arg11.IsWhole)
    (arg12 : Memref sig .tc .vmem S32x1 .f32) (harg12 : arg12.IsWhole)
    (arg13 : Memref sig .tc .vmem S1x8192 .f32) (harg13 : arg13.IsWhole)
    (arg14 : Memref sig .tc .vmem S32x65536 .f32) (harg14 : arg14.IsWhole)
    (arg15 : Memref sig .tc .vmem S32x128 .f32) (harg15 : arg15.IsWhole)
    (arg16 : Memref sig .tc .vmem S32x128 .f32) (harg16 : arg16.IsWhole)
    (arg17 : Memref sig .tc .vmem S1x1 .f32) (harg17 : arg17.IsWhole)
    (hc0 : ¬condInit i) (hc1 : condP0 i) (hc2 : ¬condP1 i)
    (x0 : Vec F S8x8192 .f32) (x1 : Vec F S1x8192 .f32) (x2 : Vec F S8x128 .f32) (x3 : Vec F S64x8 .f32) (x4 : Vec F S64x1 .f32) (x5 : Vec F S64x1 .f32) (x6 : Vec F S64x1 .f32) (x7 : Vec F S32x64 .f32) (x8 : Vec F S32x1 .f32) (x9 : Vec F S32x1 .f32) (x10 : Vec F S32x1 .f32)
    (Z : Vec F S32x65536 .f32) (s q : Vec F S32x128 .f32) (E : Set ℕ) (K : PUnit → sProp 𝕄) :
    iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ (∃ d, owns (c : Thread nD τ) arg13 fullShare d) ∗ owns (c : Thread nD τ) arg14 fullShare Z ∗ owns (c : Thread nD τ) arg15 fullShare s ∗ owns (c : Thread nD τ) arg16 fullShare q ∗ (∃ d, owns (c : Thread nD τ) arg17 fullShare d)
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ (∃ d, owns (c : Thread nD τ) arg13 fullShare d) ∗ owns (c : Thread nD τ) arg14 fullShare (VecWindow.put Z (k0_off1 i) S32x8192.size (k0_pay4 (hidden x0 x2 x3 x4 x5 x6) x7 x8)) ∗ owns (c : Thread nD τ) arg15 fullShare (k0_pay5 (hidden x0 x2 x3 x4 x5 x6) x7 x8 s) ∗ owns (c : Thread nD τ) arg16 fullShare (k0_pay6 (hidden x0 x2 x3 x4 x5 x6) x7 x8 q) ∗ (∃ d, owns (c : Thread nD τ) arg17 fullShare d)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  obtain rfl := harg14.eq_unread hfs0; obtain rfl := harg15.eq_unread hfs1; obtain rfl := harg16.eq_unread hfs2
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  have eh : runB.sl.r c arg2 harg2 arg4 harg4 arg5 harg5 arg6 harg6 arg7 harg7 arg8 harg8 x0 x2 x3 x4 x5 x6 = hidden x0 x2 x3 x4 x5 x6 := by
    unfold runB.sl.r hidden
    exact congr (congr (congr (congr (congr (congr (congrArg (k0_pay9 invT) (ld_full harg5 x3 _)) (ld_full harg6 x4 _)) (ld_window harg4 x2 _)) (ld_window harg4 x2 _)) (ld_full harg2 x0 _)) (ld_full harg7 x5 _)) (ld_full harg8 x6 _)
  isplitl [H11]
  · iexists _, _; isplitr; swap; · iexact H11
    ipureintro; rfl
  isplitl [HS0]
  · iexists _; isplitr
    swap; · iexact HS0
    ipureintro
    exact (st_window harg14 Z _ _).trans (congrArg (VecWindow.put Z (k0_off1 i) S32x8192.size) (congr (congr (congrArg k0_pay4 eh) (ld_full harg9 x7 _)) (ld_full harg10 x8 _)))
  isplitl [HS1]
  · iexists _; isplitr
    swap; · iexact HS1
    ipureintro
    refine (View.read_writes_full _ _ _ _ _).trans ?_
    exact congr (congr (congr (congrArg k0_pay5 eh) (ld_full harg9 x7 _)) (ld_full harg10 x8 _)) (ld_full harg15 s _)
  isplitl [HS2]
  · iexists _; isplitr
    swap; · iexact HS2
    ipureintro
    refine (View.read_writes_full _ _ _ _ _).trans ?_
    exact congr (congr (congr (congrArg k0_pay6 eh) (ld_full harg9 x7 _)) (ld_full harg10 x8 _)) (ld_full harg16 q _)
  iexists _, _; isplitr; swap; · iexact HS3
  ipureintro; rfl

set_option maxHeartbeats 4000000 in
/-- The body at a point of the second phase: the output tile from the kept window and the sums, and the tile's last average carried to the next point. -/
theorem runC (c : Dev nD) (i : grid0.Coords)
    (arg2 : Memref sig .tc .vmem S8x8192 .f32) (harg2 : arg2.IsWhole)
    (arg3 : Memref sig .tc .vmem S1x8192 .f32) (harg3 : arg3.IsWhole)
    (arg4 : Memref sig .tc .vmem S8x128 .f32) (harg4 : arg4.IsWhole)
    (arg5 : Memref sig .tc .vmem S64x8 .f32) (harg5 : arg5.IsWhole)
    (arg6 : Memref sig .tc .vmem S64x1 .f32) (harg6 : arg6.IsWhole)
    (arg7 : Memref sig .tc .vmem S64x1 .f32) (harg7 : arg7.IsWhole)
    (arg8 : Memref sig .tc .vmem S64x1 .f32) (harg8 : arg8.IsWhole)
    (arg9 : Memref sig .tc .vmem S32x64 .f32) (harg9 : arg9.IsWhole)
    (arg10 : Memref sig .tc .vmem S32x1 .f32) (harg10 : arg10.IsWhole)
    (arg11 : Memref sig .tc .vmem S32x1 .f32) (harg11 : arg11.IsWhole)
    (arg12 : Memref sig .tc .vmem S32x1 .f32) (harg12 : arg12.IsWhole)
    (arg13 : Memref sig .tc .vmem S1x8192 .f32) (harg13 : arg13.IsWhole)
    (arg14 : Memref sig .tc .vmem S32x65536 .f32) (harg14 : arg14.IsWhole)
    (arg15 : Memref sig .tc .vmem S32x128 .f32) (harg15 : arg15.IsWhole)
    (arg16 : Memref sig .tc .vmem S32x128 .f32) (harg16 : arg16.IsWhole)
    (arg17 : Memref sig .tc .vmem S1x1 .f32) (harg17 : arg17.IsWhole)
    (hc0 : ¬condInit i) (hc1 : ¬condP0 i) (hc2 : condP1 i)
    (x0 : Vec F S8x8192 .f32) (x1 : Vec F S1x8192 .f32) (x2 : Vec F S8x128 .f32) (x3 : Vec F S64x8 .f32) (x4 : Vec F S64x1 .f32) (x5 : Vec F S64x1 .f32) (x6 : Vec F S64x1 .f32) (x7 : Vec F S32x64 .f32) (x8 : Vec F S32x1 .f32) (x9 : Vec F S32x1 .f32) (x10 : Vec F S32x1 .f32)
    (Z : Vec F S32x65536 .f32) (s q : Vec F S32x128 .f32) (cr : Vec F S1x1 .f32) (E : Set ℕ) (K : PUnit → sProp 𝕄) :
    iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ (∃ d, owns (c : Thread nD τ) arg13 fullShare d) ∗ owns (c : Thread nD τ) arg14 fullShare Z ∗ owns (c : Thread nD τ) arg15 fullShare s ∗ owns (c : Thread nD τ) arg16 fullShare q ∗ owns (c : Thread nD τ) arg17 fullShare cr
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare (outTile i (kept i hc2 Z) s q x9 x10 cr x1) ∗ owns (c : Thread nD τ) arg14 fullShare Z ∗ owns (c : Thread nD τ) arg15 fullShare s ∗ owns (c : Thread nD τ) arg16 fullShare q ∗ owns (c : Thread nD τ) arg17 fullShare (k0_pay8 (comb (kept i hc2 Z) s q x9 x10))) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__mlp_kernel_eq_skeleton]; unfold cc0__mlp_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  obtain rfl := harg14.eq_unread hfs0; obtain rfl := harg15.eq_unread hfs1; obtain rfl := harg16.eq_unread hfs2; obtain rfl := harg17.eq_unread hfs3
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr
    swap; · iexact H11
    ipureintro
    refine (View.read_writes_full _ _ _ _ _).trans ?_
    exact congr (congr (congr (congrArg k0_pay7 (congr (congr (congr (congr (congrArg (k0_pay10 invT) (ld_window harg14 Z _)) (ld_full harg15 s _)) (ld_full harg16 q _)) (ld_full harg11 x9 _)) (ld_full harg12 x10 _))) (congr (congr (congr (congr (congr (congrArg (k0_pay11 (BitVec.ofNat 32 (i 1).val) invT) (ld_window harg14 Z _)) (ld_full harg15 s _)) (ld_full harg16 q _)) (ld_full harg11 x9 _)) (ld_full harg12 x10 _)) (ld_full harg17 cr _))) (congr (congr (congr (congr (congrArg (k0_pay12 invT) (ld_window harg14 Z _)) (ld_full harg15 s _)) (ld_full harg16 q _)) (ld_full harg11 x9 _)) (ld_full harg12 x10 _))) (ld_full harg3 x1 _)
  isplitl [HS0]
  · iexists _; isplitr; · ipureintro; exact harg14.read_unread _
    iexact HS0
  isplitl [HS1]
  · iexists _; isplitr; · ipureintro; exact harg15.read_unread _
    iexact HS1
  isplitl [HS2]
  · iexists _; isplitr; · ipureintro; exact harg16.read_unread _
    iexact HS2
  iexists _; isplitr
  swap; · iexact HS3
  ipureintro
  refine (View.read_writes_full _ _ _ _ _).trans ?_
  exact congrArg k0_pay8 (congr (congr (congr (congr (congrArg (k0_pay10 invT) (ld_window harg14 Z _)) (ld_full harg15 s _)) (ld_full harg16 q _)) (ld_full harg11 x9 _)) (ld_full harg12 x10 _))

end Cert.KernelIdeal.Run

end
-- ==== Proof.KI.State.lean ====
module

public import proofs.«01_k».proof.Proof.KI.Run
public import proofs.«01_k».proof.Proof.Gen.KernelIdeal.Skeleton
public import Idealize.ShloMosaic.Lib.Pipeline.DatRel
public import Idealize.ShloMosaic.Lib.Pipeline.ArrRel

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel cellOf)
open Cert.KernelIdeal.Gen

variable {F : FTy → Type} [FloatOps F]

local notation "𝕄" => MT nD τ sig Unit (Elt F) ℕ (UR sig nD τ) ℕ

open Idealize.ShloMosaic.Rounds

variable (m : (ℓ : Loc nD τ sig) → Buf (Elt F) ℓ) (ρ : Dev nD → PrngReg)

/-! ## The point's conditions in closed form -/

theorem condInit_iff : ∀ t : Fin cfg0.N, condInit (grid0.coords t) ↔ t.val = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [condInit, e0, e1]
    word_cmp
   : ∀ t : Fin grid0.N, condInit (grid0.coords t) ↔ t.val = 0)

theorem condP0_iff : ∀ t : Fin cfg0.N, condP0 (grid0.coords t) ↔ t.val < 8 :=
  (fun t => by
    have ht : t.val < 16 := Nat.lt_of_lt_of_eq t.isLt N_0
    have e0 : (grid0.coords t 0).val = t.val / 8 % 2 := Pipeline.Grid.coords_val t 0 (by decide) rfl
    simp only [condP0, k0_cond2, e0]
    word_cmp
   : ∀ t : Fin grid0.N, condP0 (grid0.coords t) ↔ t.val < 8)

theorem condP1_iff : ∀ t : Fin cfg0.N, condP1 (grid0.coords t) ↔ 8 ≤ t.val :=
  (fun t => by
    have ht : t.val < 16 := Nat.lt_of_lt_of_eq t.isLt N_0
    have e0 : (grid0.coords t 0).val = t.val / 8 % 2 := Pipeline.Grid.coords_val t 0 (by decide) rfl
    simp only [condP1, k0_cond3, e0]
    word_cmp
   : ∀ t : Fin grid0.N, condP1 (grid0.coords t) ↔ 8 ≤ t.val)

/-- The second grid coordinate of point `t`. -/
theorem coord1 (t : Fin cfg0.N) : (grid0.coords t 1).val = t.val % 8 := by
  have e1 : (grid0.coords (t : Fin grid0.N) 1).val = t.val / 1 % 8 := Pipeline.Grid.coords_val (t : Fin grid0.N) 1 (by decide) rfl
  rw [e1, Nat.div_one]

/-! ## What the points compute -/

/-- Point `j` of the grid (taken modulo its 16 points). -/
def pt (j : ℕ) : Fin cfg0.N := ⟨j % 16, lt_of_lt_of_eq (Nat.mod_lt _ (by decide)) (show 16 = cfg0.N from N_0.symm)⟩

theorem pt_val (t : Fin cfg0.N) : pt t.val = t :=
  Fin.ext (Nat.mod_eq_of_lt (lt_of_lt_of_eq t.isLt (show cfg0.N = 16 from N_0)))

/-- The hidden layer's tile at point `j`. -/
def hT (c : Dev nD) (j : ℕ) : Vec F S64x8192 .f32 :=
  hidden (iblk m c 0 (pt j)) (iblk m c 2 (pt j)) (iblk m c 3 (pt j)) (iblk m c 4 (pt j)) (iblk m c 5 (pt j)) (iblk m c 6 (pt j))

/-- The second layer's tile at point `j`. -/
def z2T (c : Dev nD) (j : ℕ) : Vec F S32x8192 .f32 := k0_pay4 (hT m c j) (iblk m c 7 (pt j)) (iblk m c 8 (pt j))

/-- The running sum after the first `j` tiles. -/
def sumS (c : Dev nD) : ℕ → Vec F S32x128 .f32
  | 0 => k0_pay1 (F := F)
  | j + 1 => k0_pay5 (hT m c j) (iblk m c 7 (pt j)) (iblk m c 8 (pt j)) (sumS c j)

/-- The running sum of squares after the first `j` tiles. -/
def sumQ (c : Dev nD) : ℕ → Vec F S32x128 .f32
  | 0 => k0_pay2 (F := F)
  | j + 1 => k0_pay6 (hT m c j) (iblk m c 7 (pt j)) (iblk m c 8 (pt j)) (sumQ c j)

/-- The averaged tile `j` of the second phase. -/
def combT (c : Dev nD) (j : ℕ) : Vec F S1x8192 .f32 :=
  comb (z2T m c j) (sumS m c 8) (sumQ m c 8) (iblk m c 9 (pt (8 + j))) (iblk m c 10 (pt (8 + j)))

/-- The output tile `j`. -/
def outT (c : Dev nD) (j : ℕ) : Vec F S1x8192 .f32 :=
  outTile (grid0.coords (pt (8 + j))) (z2T m c j) (sumS m c 8) (sumQ m c 8) (iblk m c 9 (pt (8 + j))) (iblk m c 10 (pt (8 + j)))
    (k0_pay8 (combT m c (j - 1))) (iblk m c 1 (pt (8 + j)))

/-- At the first tile the carried value is not used. -/
theorem outTile_first (i : grid0.Coords) (hi : (i 1).val = 0) (z : Vec F S32x8192 .f32) (s q : Vec F S32x128 .f32) (x9 x10 : Vec F S32x1 .f32)
    (cr cr' : Vec F S1x1 .f32) (x1 : Vec F S1x8192 .f32) : outTile i z s q x9 x10 cr x1 = outTile i z s q x9 x10 cr' x1 := by
  unfold outTile k0_pay11
  rw [hi]
  rfl

/-- Tile `j`'s window lies in the kept array. -/
theorem inbZ (j : ℕ) (hj : j < 8) : ∀ a, (![0, 8192 * j] : Fin 2 → ℕ) a + S32x8192.size a ≤ S32x65536.size a := by
  intro a
  match a with
  | 0 => exact Nat.le_refl 32
  | 1 => show 8192 * j + 8192 ≤ 65536; omega

/-- What the four scratch buffers hold before position `n`. -/
def St (c : Dev nD) (n : ℕ) (Z : Vec F S32x65536 .f32) (s q : Vec F S32x128 .f32) (cr : Vec F S1x1 .f32) : Prop :=
  (∀ (j : ℕ) (hj : j < 8), j < n → VecWindow.window Z ![0, 8192 * j] S32x8192.size (inbZ j hj) = z2T m c j)
    ∧ (0 < n → s = sumS m c (min n 8) ∧ q = sumQ m c (min n 8))
    ∧ (9 ≤ n → cr = k0_pay8 (combT m c (n - 9)))

/-- Before the first point nothing is asked. -/
theorem St_zero (c : Dev nD) (Z : Vec F S32x65536 .f32) (s q : Vec F S32x128 .f32) (cr : Vec F S1x1 .f32) : St m c 0 Z s q cr :=
  ⟨fun _ _ h => absurd h (Nat.not_lt_zero _), fun h => absurd h (Nat.not_lt_zero _), fun h => absurd h (by omega)⟩

/-- A put of tile `n` keeps the earlier tiles and adds its own. -/
theorem windows_step (c : Dev nD) (n : ℕ) (hn : n < 8) (off : Fin 2 → ℕ) (ho : off = ![0, 8192 * n]) (Z : Vec F S32x65536 .f32)
    (h : ∀ (j : ℕ) (hj : j < 8), j < n → VecWindow.window Z ![0, 8192 * j] S32x8192.size (inbZ j hj) = z2T m c j)
    (j : ℕ) (hj : j < 8) (hjn : j < n + 1) :
    VecWindow.window (VecWindow.put Z off S32x8192.size (z2T m c n)) ![0, 8192 * j] S32x8192.size (inbZ j hj) = z2T m c j := by
  subst ho
  by_cases e : j = n
  · subst e
    exact VecWindow.window_put_same Z _ _ (inbZ j hj) _
  · refine (VecWindow.window_put_of_disjoint Z _ _ _ _ (inbZ j hj) _ (1 : Fin 2) (Or.inl ?_)).trans (h j hj (by omega))
    show 8192 * j + 8192 ≤ 8192 * n
    omega

/-- A point of the first phase after the first one. -/
theorem St_B (c : Dev nD) (t : Fin cfg0.N) (ht : t.val < 8) (h0 : 0 < t.val) (Z : Vec F S32x65536 .f32) (s q : Vec F S32x128 .f32) (cr cr' : Vec F S1x1 .f32)
    (h : St m c t.val Z s q cr) :
    St m c (t.val + 1) (VecWindow.put Z (k0_off1 (grid0.coords t)) S32x8192.size (z2T m c t.val))
      (k0_pay5 (hT m c t.val) (iblk m c 7 t) (iblk m c 8 t) s) (k0_pay6 (hT m c t.val) (iblk m c 7 t) (iblk m c 8 t) q) cr' := by
  refine ⟨fun j hj hjn => windows_step m c t.val ht _ ?_ Z h.1 j hj hjn, fun _ => ?_, fun h9 => absurd h9 (by omega)⟩
  · rw [k0_off1_eq, coord1, Nat.mod_eq_of_lt ht]
  · obtain ⟨hs, hq⟩ := h.2.1 h0
    rw [Nat.min_eq_left (by omega : t.val ≤ 8)] at hs hq
    rw [Nat.min_eq_left (by omega : t.val + 1 ≤ 8), hs, hq, sumS, sumQ, pt_val]
    exact ⟨rfl, rfl⟩

/-- The first point. -/
theorem St_A (c : Dev nD) (t : Fin cfg0.N) (ht : t.val = 0) (Z : Vec F S32x65536 .f32) (cr' : Vec F S1x1 .f32) :
    St m c (t.val + 1) (VecWindow.put Z (k0_off1 (grid0.coords t)) S32x8192.size (z2T m c t.val))
      (k0_pay5 (hT m c t.val) (iblk m c 7 t) (iblk m c 8 t) (k0_pay1 (F := F))) (k0_pay6 (hT m c t.val) (iblk m c 7 t) (iblk m c 8 t) (k0_pay2 (F := F))) cr' := by
  refine ⟨fun j hj hjn => windows_step m c t.val (by omega) _ ?_ Z (fun _ _ h => absurd h (by omega)) j hj hjn, fun _ => ?_, fun h9 => absurd h9 (by omega)⟩
  · rw [k0_off1_eq, coord1, ht]
  · have e := pt_val t
    rw [ht] at e
    rw [Nat.min_eq_left (by omega : t.val + 1 ≤ 8), ht, sumS, sumQ, e]
    exact ⟨rfl, rfl⟩

/-- A window depends only on where it starts. -/
theorem window_congr (Z : Vec F S32x65536 .f32) {off off' : Fin 2 → ℕ} (e : off = off') (h : ∀ a, off a + S32x8192.size a ≤ S32x65536.size a)
    (h' : ∀ a, off' a + S32x8192.size a ≤ S32x65536.size a) :
    VecWindow.window Z off S32x8192.size h = VecWindow.window Z off' S32x8192.size h' := by
  subst e
  rfl

/-- What a point of the second phase reads back is the tile its first phase kept. -/
theorem kept_eq (c : Dev nD) (t : Fin cfg0.N) (hc : condP1 (grid0.coords t)) (Z : Vec F S32x65536 .f32) (s q : Vec F S32x128 .f32) (cr : Vec F S1x1 .f32)
    (h : St m c t.val Z s q cr) : kept (grid0.coords t) hc Z = z2T m c (t.val - 8) := by
  have hN : t.val < 16 := lt_of_lt_of_eq t.isLt (show cfg0.N = 16 from N_0)
  have h8 := (condP1_iff t).mp hc
  rw [← h.1 (t.val - 8) (by omega) (by omega)]
  unfold kept
  have e : k0_off2 (grid0.coords t) = ![0, 8192 * (t.val - 8)] := by
    rw [k0_off2_eq, coord1, show t.val % 8 = t.val - 8 by omega]
  exact window_congr Z e _ _

/-- The averaged tile a point of the second phase computes. -/
theorem comb_eq (c : Dev nD) (t : Fin cfg0.N) (hc : condP1 (grid0.coords t)) (Z : Vec F S32x65536 .f32) (s q : Vec F S32x128 .f32) (cr : Vec F S1x1 .f32)
    (h : St m c t.val Z s q cr) : comb (kept (grid0.coords t) hc Z) s q (iblk m c 9 t) (iblk m c 10 t) = combT m c (t.val - 8) := by
  have h8 := (condP1_iff t).mp hc
  obtain ⟨hs, hq⟩ := h.2.1 (by omega)
  rw [Nat.min_eq_right h8] at hs hq
  rw [kept_eq m c t hc Z s q cr h, hs, hq, combT, show 8 + (t.val - 8) = t.val by omega, pt_val]

/-- The output tile a point of the second phase computes. -/
theorem out_eq (c : Dev nD) (t : Fin cfg0.N) (hc : condP1 (grid0.coords t)) (Z : Vec F S32x65536 .f32) (s q : Vec F S32x128 .f32) (cr : Vec F S1x1 .f32)
    (h : St m c t.val Z s q cr) :
    outTile (grid0.coords t) (kept (grid0.coords t) hc Z) s q (iblk m c 9 t) (iblk m c 10 t) cr (iblk m c 1 t) = outT m c (t.val - 8) := by
  have hN : t.val < 16 := lt_of_lt_of_eq t.isLt (show cfg0.N = 16 from N_0)
  have h8 := (condP1_iff t).mp hc
  obtain ⟨hs, hq⟩ := h.2.1 (by omega)
  rw [Nat.min_eq_right h8] at hs hq
  rw [kept_eq m c t hc Z s q cr h, hs, hq, outT, show 8 + (t.val - 8) = t.val by omega, pt_val]
  by_cases e : t.val = 8
  · exact outTile_first _ (by rw [coord1, e]) _ _ _ _ _ _ _ _
  · rw [h.2.2 (by omega), show t.val - 9 = t.val - 8 - 1 by omega]

/-- A point of the second phase. -/
theorem St_C (c : Dev nD) (t : Fin cfg0.N) (hc : condP1 (grid0.coords t)) (Z : Vec F S32x65536 .f32) (s q : Vec F S32x128 .f32) (cr : Vec F S1x1 .f32)
    (h : St m c t.val Z s q cr) :
    St m c (t.val + 1) Z s q (k0_pay8 (comb (kept (grid0.coords t) hc Z) s q (iblk m c 9 t) (iblk m c 10 t))) := by
  have h8 := (condP1_iff t).mp hc
  refine ⟨fun j hj _ => h.1 j hj (by omega), fun _ => ?_, fun _ => ?_⟩
  · obtain ⟨hs, hq⟩ := h.2.1 (by omega)
    rw [Nat.min_eq_right h8] at hs hq
    rw [Nat.min_eq_right (by omega : 8 ≤ t.val + 1)]
    exact ⟨hs, hq⟩
  · rw [comb_eq m c t hc Z s q cr h, show t.val + 1 - 9 = t.val - 8 by omega]

end Cert.KernelIdeal.Run

end
-- ==== Proof.KI.Launch.lean ====
module

public import proofs.«01_k».proof.Proof.KI.State
public import proofs.«01_k».proof.Proof.Gen.KernelIdeal.Skeleton
public import Idealize.ShloMosaic.Lib.Pipeline.DatRel
public import Idealize.ShloMosaic.Lib.Pipeline.ArrRel

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel cellOf)
open Cert.KernelIdeal.Gen

variable {F : FTy → Type} [FloatOps F]

local notation "𝕄" => MT nD τ sig Unit (Elt F) ℕ (UR sig nD τ) ℕ

open Idealize.ShloMosaic.Rounds

variable (m : (ℓ : Loc nD τ sig) → Buf (Elt F) ℓ) (ρ : Dev nD → PrngReg)

/-! ## The staging memrefs and the scratch buffers -/

/-- Window 0's staging memref at point `t`. -/
abbrev ms0 (t : Fin cfg0.N) : Memref sig .tc .vmem S8x8192 .f32 := win0_0.stage (cfg0.slots t 0)
/-- Window 1's staging memref at point `t`. -/
abbrev ms1 (t : Fin cfg0.N) : Memref sig .tc .vmem S1x8192 .f32 := win0_1.stage (cfg0.slots t 1)
/-- Window 2's staging memref at point `t`. -/
abbrev ms2 (t : Fin cfg0.N) : Memref sig .tc .vmem S8x128 .f32 := win0_2.stage (cfg0.slots t 2)
/-- Window 3's staging memref at point `t`. -/
abbrev ms3 (t : Fin cfg0.N) : Memref sig .tc .vmem S64x8 .f32 := win0_3.stage (cfg0.slots t 3)
/-- Window 4's staging memref at point `t`. -/
abbrev ms4 (t : Fin cfg0.N) : Memref sig .tc .vmem S64x1 .f32 := win0_4.stage (cfg0.slots t 4)
/-- Window 5's staging memref at point `t`. -/
abbrev ms5 (t : Fin cfg0.N) : Memref sig .tc .vmem S64x1 .f32 := win0_5.stage (cfg0.slots t 5)
/-- Window 6's staging memref at point `t`. -/
abbrev ms6 (t : Fin cfg0.N) : Memref sig .tc .vmem S64x1 .f32 := win0_6.stage (cfg0.slots t 6)
/-- Window 7's staging memref at point `t`. -/
abbrev ms7 (t : Fin cfg0.N) : Memref sig .tc .vmem S32x64 .f32 := win0_7.stage (cfg0.slots t 7)
/-- Window 8's staging memref at point `t`. -/
abbrev ms8 (t : Fin cfg0.N) : Memref sig .tc .vmem S32x1 .f32 := win0_8.stage (cfg0.slots t 8)
/-- Window 9's staging memref at point `t`. -/
abbrev ms9 (t : Fin cfg0.N) : Memref sig .tc .vmem S32x1 .f32 := win0_9.stage (cfg0.slots t 9)
/-- Window 10's staging memref at point `t`. -/
abbrev ms10 (t : Fin cfg0.N) : Memref sig .tc .vmem S32x1 .f32 := win0_10.stage (cfg0.slots t 10)
/-- Window 11's staging memref at point `t`. -/
abbrev ms11 (t : Fin cfg0.N) : Memref sig .tc .vmem S1x8192 .f32 := win0_11.stage (cfg0.slots t 11)
/-- Scratch buffer 0 as a memref. -/
abbrev sc0 : Memref sig .tc .vmem S32x65536 .f32 := Memref.whole cc0_scratch0
/-- Scratch buffer 1 as a memref. -/
abbrev sc1 : Memref sig .tc .vmem S32x128 .f32 := Memref.whole cc0_scratch1
/-- Scratch buffer 2 as a memref. -/
abbrev sc2 : Memref sig .tc .vmem S32x128 .f32 := Memref.whole cc0_scratch2
/-- Scratch buffer 3 as a memref. -/
abbrev sc3 : Memref sig .tc .vmem S1x1 .f32 := Memref.whole cc0_scratch3

/-- What the launch hands the region: the scratch buffers at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The invariant before position `n`: the scratch buffers hold something of which `St` holds. -/
def PhiS (c : Dev nD) (n : ℕ) : sProp 𝕄 :=
  iprop(∃ (Z : Vec F S32x65536 .f32) (s : Vec F S32x128 .f32) (q : Vec F S32x128 .f32) (cr : Vec F S1x1 .f32), ⌜St m c n Z s q cr⌝
    ∗ owns (c : Thread nD τ) sc0 fullShare Z ∗ owns (c : Thread nD τ) sc1 fullShare s ∗ owns (c : Thread nD τ) sc2 fullShare q
    ∗ owns (c : Thread nD τ) sc3 fullShare cr ∗ (∃ r, prngReg c r))

/-- Before the first point the invariant is what the launch hands over. -/
theorem PhiS_in (c : Dev nD) : Pipeline.ΦA spec0 c ⊢ PhiS m c 0 := by
  rw [PhiA_eq]
  unfold PhiS
  iintro ⟨⟨⟨%Z, H0⟩, ⟨%s, H1⟩, ⟨%q, H2⟩, ⟨%cr, H3⟩⟩, Hg⟩
  iexists Z; iexists s; iexists q; iexists cr
  isplitr
  · ipureintro; exact St_zero m c Z s q cr
  isplitl [H0]; · iexact H0
  isplitl [H1]; · iexact H1
  isplitl [H2]; · iexact H2
  isplitl [H3]; · iexact H3
  iexact Hg

/-- At any position the invariant gives the scratch buffers back. -/
theorem PhiS_out (c : Dev nD) (n : ℕ) : PhiS m c n ⊢ Pipeline.ΦA spec0 c := by
  rw [PhiA_eq]
  unfold PhiS
  iintro ⟨%Z, %s, %q, %cr, %h, H0, H1, H2, H3, Hg⟩
  isplitr [Hg]
  · isplitl [H0]; · iexists Z; iexact H0
    isplitl [H1]; · iexists s; iexact H1
    isplitl [H2]; · iexists q; iexact H2
    iexists cr; iexact H3
  iexact Hg

/-! ## The proof data -/

/-- The proof data: every input window keeps its block; nothing exact is said of the output window. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outT m c (t.val - 8)
  Φ t := PhiS m c t.val
  q _ := fullShare
  owed _ := 0

/-- The proof data's arrays are the contents at the region's entry. -/
theorem A_eq (c : Dev nD) (w : Fin cfg0.W) : (dats m 0 c).A w = V m c (Pipeline.arrRef spec0 w) := by
  dsimp only [dats]

/-- Input window 0 holds its block after a point. -/
theorem after_0 (c : Dev nD) (t : Fin cfg0.N) : (dats m 0 c).after 0 t = iblk m c 0 t := by dsimp only [dats]
/-- Input window 0 holds its block before a point. -/
theorem before_0 (c : Dev nD) (t : Fin cfg0.N) (d) : (dats m 0 c).before 0 t d = iblk m c 0 t :=
  before0_0_of m (dats m 0 c) (A_eq m c 0) (after_0 m c) t d
/-- Input window 1 holds its block after a point. -/
theorem after_1 (c : Dev nD) (t : Fin cfg0.N) : (dats m 0 c).after 1 t = iblk m c 1 t := by dsimp only [dats]
/-- Input window 1 holds its block before a point. -/
theorem before_1 (c : Dev nD) (t : Fin cfg0.N) (d) : (dats m 0 c).before 1 t d = iblk m c 1 t :=
  before0_1_of m (dats m 0 c) (A_eq m c 1) (after_1 m c) t d
/-- Input window 2 holds its block after a point. -/
theorem after_2 (c : Dev nD) (t : Fin cfg0.N) : (dats m 0 c).after 2 t = iblk m c 2 t := by dsimp only [dats]
/-- Input window 2 holds its block before a point. -/
theorem before_2 (c : Dev nD) (t : Fin cfg0.N) (d) : (dats m 0 c).before 2 t d = iblk m c 2 t :=
  before0_2_of m (dats m 0 c) (A_eq m c 2) (after_2 m c) t d
/-- Input window 3 holds its block after a point. -/
theorem after_3 (c : Dev nD) (t : Fin cfg0.N) : (dats m 0 c).after 3 t = iblk m c 3 t := by dsimp only [dats]
/-- Input window 3 holds its block before a point. -/
theorem before_3 (c : Dev nD) (t : Fin cfg0.N) (d) : (dats m 0 c).before 3 t d = iblk m c 3 t :=
  before0_3_of m (dats m 0 c) (A_eq m c 3) (after_3 m c) t d
/-- Input window 4 holds its block after a point. -/
theorem after_4 (c : Dev nD) (t : Fin cfg0.N) : (dats m 0 c).after 4 t = iblk m c 4 t := by dsimp only [dats]
/-- Input window 4 holds its block before a point. -/
theorem before_4 (c : Dev nD) (t : Fin cfg0.N) (d) : (dats m 0 c).before 4 t d = iblk m c 4 t :=
  before0_4_of m (dats m 0 c) (A_eq m c 4) (after_4 m c) t d
/-- Input window 5 holds its block after a point. -/
theorem after_5 (c : Dev nD) (t : Fin cfg0.N) : (dats m 0 c).after 5 t = iblk m c 5 t := by dsimp only [dats]
/-- Input window 5 holds its block before a point. -/
theorem before_5 (c : Dev nD) (t : Fin cfg0.N) (d) : (dats m 0 c).before 5 t d = iblk m c 5 t :=
  before0_5_of m (dats m 0 c) (A_eq m c 5) (after_5 m c) t d
/-- Input window 6 holds its block after a point. -/
theorem after_6 (c : Dev nD) (t : Fin cfg0.N) : (dats m 0 c).after 6 t = iblk m c 6 t := by dsimp only [dats]
/-- Input window 6 holds its block before a point. -/
theorem before_6 (c : Dev nD) (t : Fin cfg0.N) (d) : (dats m 0 c).before 6 t d = iblk m c 6 t :=
  before0_6_of m (dats m 0 c) (A_eq m c 6) (after_6 m c) t d
/-- Input window 7 holds its block after a point. -/
theorem after_7 (c : Dev nD) (t : Fin cfg0.N) : (dats m 0 c).after 7 t = iblk m c 7 t := by dsimp only [dats]
/-- Input window 7 holds its block before a point. -/
theorem before_7 (c : Dev nD) (t : Fin cfg0.N) (d) : (dats m 0 c).before 7 t d = iblk m c 7 t :=
  before0_7_of m (dats m 0 c) (A_eq m c 7) (after_7 m c) t d
/-- Input window 8 holds its block after a point. -/
theorem after_8 (c : Dev nD) (t : Fin cfg0.N) : (dats m 0 c).after 8 t = iblk m c 8 t := by dsimp only [dats]
/-- Input window 8 holds its block before a point. -/
theorem before_8 (c : Dev nD) (t : Fin cfg0.N) (d) : (dats m 0 c).before 8 t d = iblk m c 8 t :=
  before0_8_of m (dats m 0 c) (A_eq m c 8) (after_8 m c) t d
/-- Input window 9 holds its block after a point. -/
theorem after_9 (c : Dev nD) (t : Fin cfg0.N) : (dats m 0 c).after 9 t = iblk m c 9 t := by dsimp only [dats]
/-- Input window 9 holds its block before a point. -/
theorem before_9 (c : Dev nD) (t : Fin cfg0.N) (d) : (dats m 0 c).before 9 t d = iblk m c 9 t :=
  before0_9_of m (dats m 0 c) (A_eq m c 9) (after_9 m c) t d
/-- Input window 10 holds its block after a point. -/
theorem after_10 (c : Dev nD) (t : Fin cfg0.N) : (dats m 0 c).after 10 t = iblk m c 10 t := by dsimp only [dats]
/-- Input window 10 holds its block before a point. -/
theorem before_10 (c : Dev nD) (t : Fin cfg0.N) (d) : (dats m 0 c).before 10 t d = iblk m c 10 t :=
  before0_10_of m (dats m 0 c) (A_eq m c 10) (after_10 m c) t d

/-- The marked window: the output. -/
abbrev fgt : Fin cfg0.W → Bool := fun w => match w with
    | ⟨0, _⟩ => false
    | ⟨1, _⟩ => false
    | ⟨2, _⟩ => false
    | ⟨3, _⟩ => false
    | ⟨4, _⟩ => false
    | ⟨5, _⟩ => false
    | ⟨6, _⟩ => false
    | ⟨7, _⟩ => false
    | ⟨8, _⟩ => false
    | ⟨9, _⟩ => false
    | ⟨10, _⟩ => false
    | ⟨11, _⟩ => true

/-- What the output window's staging buffer holds after a point: in the second phase, the tile of the output. -/
def Rl (c : Dev nD) : (w : Fin cfg0.W) → Fin cfg0.N → ((cfg0.win w).block.Idx → Elt F (cfg0.win w).elt) → Prop := fun w => match w with
    | ⟨0, _⟩ => fun _ _ => True
    | ⟨1, _⟩ => fun _ _ => True
    | ⟨2, _⟩ => fun _ _ => True
    | ⟨3, _⟩ => fun _ _ => True
    | ⟨4, _⟩ => fun _ _ => True
    | ⟨5, _⟩ => fun _ _ => True
    | ⟨6, _⟩ => fun _ _ => True
    | ⟨7, _⟩ => fun _ _ => True
    | ⟨8, _⟩ => fun _ _ => True
    | ⟨9, _⟩ => fun _ _ => True
    | ⟨10, _⟩ => fun _ _ => True
    | ⟨11, _⟩ => fun t X => 8 ≤ t.val → X = outT m c (t.val - 8)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ Y, ⌜((dats m 0 c).toRRel fgt (Rl m c)).Finds 11 t Y⌝ ∗ owns (c : Thread nD τ) (ms11 t) fullShare Y))

/-- What the body returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ (∃ X, ⌜Rl m c 11 t X⌝ ∗ owns (c : Thread nD τ) (ms11 t) fullShare X))

/-- The hidden tile at point `t`. -/
theorem hT_eq (c : Dev nD) (t : Fin cfg0.N) :
    hidden (iblk m c 0 t) (iblk m c 2 t) (iblk m c 3 t) (iblk m c 4 t) (iblk m c 5 t) (iblk m c 6 t) = hT m c t.val := by
  unfold hT; rw [pt_val]

/-- The second layer's tile at point `t`. -/
theorem z2T_eq (c : Dev nD) (t : Fin cfg0.N) : k0_pay4 (hT m c t.val) (iblk m c 7 t) (iblk m c 8 t) = z2T m c t.val := by
  unfold z2T; rw [pt_val]

set_option maxHeartbeats 4000000 in
/-- The body at any point: the first point, a later point of the first phase, a point of the second phase. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, after_0, after_1, after_2, after_3, after_4, after_5, after_6, after_7, after_8, after_9, after_10]
  rw [show (dats m 0 c).owesAt () t.succ = (dats m 0 c).owesAt () t.castSucc from rfl,
    show (dats m 0 c).Φ t.succ = PhiS m c (t.val + 1) from rfl, show (dats m 0 c).Φ t.castSucc = PhiS m c t.val from rfl]
  unfold PhiS
  have hN : t.val < 16 := lt_of_lt_of_eq t.isLt (show cfg0.N = 16 from N_0)
  have e7 := hT_eq m c t
  have e8 := z2T_eq m c t
  by_cases h1 : t.val < 8
  · by_cases h0 : t.val = 0
    · iintro ⟨⟨%Z, %s, %q, %cr, %h, S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y, %hY, H11⟩⟩
      iapply (runA c (grid0.coords t) _ _ _ _ _ _ _ _ _ _ _ _ _ _ _ _ _ _ _ _ _ _ _ _ _ _ _ _ _ _ _ _ ((condInit_iff t).mpr h0) ((condP0_iff t).mpr h1) (fun h => absurd ((condP1_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) Z Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists Y; iexact H11
      isplitl [S0]; · iexact S0
      isplitl [S1]; · iexists s; iexact S1
      isplitl [S2]; · iexists q; iexact S2
      isplitl [S3]; · iexists cr; iexact S3
      iintro ⟨H0, H1, H2, H3, H4, H5, H6, H7, H8, H9, H10, ⟨%Y', H11⟩, S0, S1, S2, ⟨%cr', S3⟩⟩
      rw [e7, e8]
      isplitl [S0 S1 S2 S3 Hg]
      · iexists _; iexists _; iexists _; iexists cr'
        isplitr
        · ipureintro; exact St_A m c t h0 Z cr'
        isplitl [S0]; · iexact S0
        isplitl [S1]; · iexact S1
        isplitl [S2]; · iexact S2
        isplitl [S3]; · iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _
      isplitr; swap; · iexact H11
      ipureintro; exact fun h8 => absurd h8 (by omega)
    · iintro ⟨⟨%Z, %s, %q, %cr, %h, S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y, %hY, H11⟩⟩
      iapply (runB c (grid0.coords t) _ _ _ _ _ _ _ _ _ _ _ _ _ _ _ _ _ _ _ _ _ _ _ _ _ _ _ _ _ _ _ _ (fun h => h0 ((condInit_iff t).mp h)) ((condP0_iff t).mpr h1) (fun h => absurd ((condP1_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) Z s q Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists Y; iexact H11
      isplitl [S0]; · iexact S0
      isplitl [S1]; · iexact S1
      isplitl [S2]; · iexact S2
      isplitl [S3]; · iexists cr; iexact S3
      iintro ⟨H0, H1, H2, H3, H4, H5, H6, H7, H8, H9, H10, ⟨%Y', H11⟩, S0, S1, S2, ⟨%cr', S3⟩⟩
      rw [e7, e8]
      isplitl [S0 S1 S2 S3 Hg]
      · iexists _; iexists _; iexists _; iexists cr'
        isplitr
        · ipureintro; exact St_B m c t h1 (by omega) Z s q cr cr' h
        isplitl [S0]; · iexact S0
        isplitl [S1]; · iexact S1
        isplitl [S2]; · iexact S2
        isplitl [S3]; · iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _
      isplitr; swap; · iexact H11
      ipureintro; exact fun h8 => absurd h8 (by omega)
  · have hc : condP1 (grid0.coords t) := (condP1_iff t).mpr (by omega)
    iintro ⟨⟨%Z, %s, %q, %cr, %h, S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y, %hY, H11⟩⟩
    iapply (runC c (grid0.coords t) _ _ _ _ _ _ _ _ _ _ _ _ _ _ _ _ _ _ _ _ _ _ _ _ _ _ _ _ _ _ _ _ (fun h => absurd ((condInit_iff t).mp h) (by omega)) (fun h => h1 ((condP0_iff t).mp h)) hc (iblk m c 0 t) (iblk m c 1 t) (iblk m c 2 t) (iblk m c 3 t) (iblk m c 4 t) (iblk m c 5 t) (iblk m c 6 t) (iblk m c 7 t) (iblk m c 8 t) (iblk m c 9 t) (iblk m c 10 t) Z s q cr Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists Y; iexact H11
    isplitl [S0]; · iexact S0
    isplitl [S1]; · iexact S1
    isplitl [S2]; · iexact S2
    isplitl [S3]; · iexact S3
    iintro ⟨H0, H1, H2, H3, H4, H5, H6, H7, H8, H9, H10, H11, S0, S1, S2, S3⟩
    isplitl [S0 S1 S2 S3 Hg]
    · iexists _; iexists _; iexists _; iexists _
      isplitr
      · ipureintro; exact St_C m c t hc Z s q cr h
      isplitl [S0]; · iexact S0
      isplitl [S1]; · iexact S1
      isplitl [S2]; · iexact S2
      isplitl [S3]; · iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _
    isplitr; swap; · iexact H11
    ipureintro; exact fun _ => out_eq m c t hc Z s q cr h

/-- The body table's row at point `t` is the body. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- The proof data read relationally at the output window. -/
def rdats (c : Dev nD) : RDat τ (Elt F) Unit ℕ (UR sig nD τ) ℕ cfg0 c := (dats m 0 c).toRRel fgt (Rl m c)

set_option backward.isDefEq.respectTransparency.types false in
/-- The launch. -/
theorem run_main : θ_run defs (onTc (τ := τ) (main (F := F))) (s₀ m ρ) (fun r => RDat.FramePost cfg0 (rdats m) (V m) r ∧ r.2.sem = fun _ => 0) :=
  RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hin := PhiS_in m) (hout := fun c => PhiS_out m c _)

end Cert.KernelIdeal.Run

end
-- ==== Proof.KI.Final.lean ====
module

public import proofs.«01_k».proof.Proof.KI.Launch
public import Idealize.ShloMosaic.Lib.Pipeline.ValueKit.Geometry
public import proofs.«01_k».proof.Proof.Gen.KernelIdeal.Skeleton
public import Idealize.ShloMosaic.Lib.Pipeline.DatRel
public import Idealize.ShloMosaic.Lib.Pipeline.ArrRel

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel cellOf)
open Cert.KernelIdeal.Gen

variable {F : FTy → Type} [FloatOps F]

local notation "𝕄" => MT nD τ sig Unit (Elt F) ℕ (UR sig nD τ) ℕ

open Idealize.ShloMosaic.Rounds

section LastWrite
variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (dat : Dat τ Val Ix Name U Lvl cfg c)

/-- A block that no later point's block meets is, at the end, what its point wrote back. -/
theorem read_last (w : Fin cfg.W) (t : Fin cfg.N) (hf : (cfg.win w).flush t = true)
    (hlater : ∀ t' : Fin cfg.N, t.val < t'.val → Disjoint ((cfg.win w).blk t).view.set ((cfg.win w).blk t').view.set) :
    ∀ d : ℕ, t.val + 1 + d ≤ cfg.N → ((cfg.win w).blk t).view.read Val (dat.arrAt w (t.val + 1 + d)) = dat.flushed w t
  | 0, _ => by
    rw [Nat.add_zero, dat.arrAt_succ, if_pos hf]
    exact View.read_write_univ _ _
  | d + 1, hd => by
    have hn : t.val + 1 + d < cfg.N := by omega
    have ih := read_last w t hf hlater d (by omega)
    rw [show t.val + 1 + (d + 1) = (⟨t.val + 1 + d, hn⟩ : Fin cfg.N).val + 1 from rfl, dat.arrAt_succ]
    by_cases h : (cfg.win w).flush ⟨t.val + 1 + d, hn⟩ = true
    · rw [if_pos h]
      refine Eq.trans ?_ ih
      exact View.read_congr fun i hi => View.write_of_not_mem _ _ _
        (Finset.disjoint_left.mp (hlater ⟨t.val + 1 + d, hn⟩ (show t.val < t.val + 1 + d by omega)) hi)
    · rw [if_neg h]
      exact ih

end LastWrite

variable (m : (ℓ : Loc nD τ sig) → Buf (Elt F) ℓ) (ρ : Dev nD → PrngReg)

/-- The output window's block at point `t` is block `t % 8`. -/
theorem index11 (t : Fin cfg0.N) : win0_11.index t = ![0, t.val % 8] := by
  show cc0_transform_11 (grid0.coords t) = _
  unfold cc0_transform_11
  rw [coord1]
  have : (BitVec.ofNat 32 (t.val % 8)).toNat = t.val % 8 := by
    rw [BitVec.toNat_ofNat]; exact Nat.mod_eq_of_lt (by omega)
  simp only [this]
  rfl

/-- In the second phase no later point writes the same block. -/
theorem later_disjoint (t t' : Fin cfg0.N) (h8 : 8 ≤ t.val) (h : t.val < t'.val) :
    Disjoint ((cfg0.win 11).blk t).view.set ((cfg0.win 11).blk t').view.set := by
  have hN : t'.val < 16 := lt_of_lt_of_eq t'.isLt (show cfg0.N = 16 from N_0)
  refine Pipeline.Window.disjoint_blk (w := win0_11) ?_ rfl
  rw [index11, index11]
  intro e
  have := congrFun e 1
  simp only [Matrix.cons_val_one, Matrix.cons_val_zero] at this
  have h2 : t.val % 8 = t'.val % 8 := this
  omega

/-- The run: arguments unchanged, the output's element at column `8192 k + j` is element `j` of tile `k`, counters at zero. -/
theorem final : θ_run defs (onTc (τ := τ) (main (F := F))) ⟨m, fun _ => 0, ρ⟩ (fun r => (∀ c : Dev nD,
      (∀ (k : ℕ) (_ : k < 8) (y : S1x8192.Idx) (i : S1x65536.Idx), (i 1).val = 8192 * k + (y 1).val →
        r.2.mem ((c.tc : Thread nD τ).loc main_v7) i = outT m c k y)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  refine (θ_run defs _ _).mono (fun r h => ⟨fun c => ?_, h.2⟩) (run_main m ρ)
  obtain ⟨after, hL, hA⟩ := RDat.FramePost.exists_exact h.1 c
  refine ⟨fun k hk y i hi => ?_, ?_⟩
  · have h16 : 8 + k < cfg0.N := by rw [show cfg0.N = 16 from N_0]; omega
    have hlast := read_last ((rdats m c).withAfter after) (11 : Fin cfg0.W) ⟨8 + k, h16⟩ (flush0_11 ⟨8 + k, h16⟩)
      (fun t' ht => later_disjoint ⟨8 + k, h16⟩ t' (Nat.le_add_right 8 k) ht) (cfg0.N - (8 + k + 1)) (by show 8 + k + 1 + _ ≤ _; omega)
    have hX : after 11 ⟨8 + k, h16⟩ = outT m c k := by
      have h0 := Dat.toRRel_leaves (dat := dats m 0 c) (fgt := fgt) (Rl := Rl m c) (w := 11) rfl (hL 11 ⟨8 + k, h16⟩ (flush0_11 _))
      have h1 : after 11 ⟨8 + k, h16⟩ = outT m c (8 + k - 8) := h0 (Nat.le_add_right 8 k)
      rw [h1, Nat.add_sub_cancel_left]
    have e : r.2.mem ((c.tc : Thread nD τ).loc main_v7) = ((rdats m c).withAfter after).arrAt 11 cfg0.N := hA 11
    rw [show (⟨8 + k, h16⟩ : Fin cfg0.N).val + 1 + (cfg0.N - (8 + k + 1)) = cfg0.N from by show 8 + k + 1 + _ = _; omega] at hlast
    rw [← e] at hlast
    have hy := congrFun hlast y
    have hi' : i = ((cfg0.win 11).blk ⟨8 + k, h16⟩).view.emb y := by
      funext a
      apply Fin.ext
      match a with
      | 0 =>
        have h1 : (i 0).val < 1 := (i 0).isLt
        have h2 := Pipeline.Window.rect_emb_val win0_11 ⟨8 + k, h16⟩ y 0
        rw [index11] at h2
        have h3 : (y 0).val < 1 := (y 0).isLt
        refine Eq.trans ?_ h2.symm
        show (i 0).val = 0 * 1 + (y 0).val
        omega
      | 1 =>
        have h2 := Pipeline.Window.rect_emb_val win0_11 ⟨8 + k, h16⟩ y 1
        rw [index11] at h2
        refine Eq.trans ?_ h2.symm
        show (i 1).val = ((8 + k) % 8) * 8192 + (y 1).val
        omega
    rw [hi']
    refine Eq.trans hy ?_
    show after 11 ⟨8 + k, h16⟩ y = _
    rw [hX]
  · have hin : ∀ (w : Fin cfg0.W) (_ : (cfg0.win w).isOut = false), ((rdats m c).withAfter after).arrAt w cfg0.N = V m c (Pipeline.arrRef spec0 w) :=
      fun w hw => (Dat.arrAt_in _ w hw _).trans (A_eq m c w)
    exact ⟨(hA 0).trans ((hin 0 rfl).trans (V_main_arg0 m c)),
      (hA 1).trans ((hin 1 rfl).trans (V_main_arg1 m c)),
      (hA 2).trans ((hin 2 rfl).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      (hA 7).trans ((hin 7 rfl).trans (V_main_arg7 m c)),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩

/-- The frame: the arguments are unchanged and the counters are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => (h.1 c).2, h.2⟩) (final m ρ)

end Cert.KernelIdeal.Run

end
-- ==== Proof.Ref.Frame.lean ====
module

public import proofs.«01_k».proof.Proof.Gen.ReferenceIdeal.Run
public import Idealize.ShloMosaic.Lib.Quiescent

@[expose] public section

set_option maxRecDepth 16384

noncomputable section

namespace Cert.ReferenceIdeal.Run

open Idealize.ShloMosaic Idealize.ShloMosaic.TcCoe Idealize.SL.Sem
open Cert.ReferenceIdeal.Gen

variable {F : FTy → Type} [FloatOps F]

/-- The reference ends with its arguments as they were and, having no semaphores, with every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0 :=
  (θ_run defs _ _).mono (fun r h => ⟨fun c => (h c).2, sem_eq_zero_of_no_sems (by decide) r.2⟩) (Value.run m ρ)

end Cert.ReferenceIdeal.Run

end
-- ==== Proof.Math.Net.lean ====
module

public import Idealize.ShloMosaic.Lib.Pointwise
public import Idealize.ShloMosaic.Lib.IdealHost
public import Mathlib.Analysis.SpecialFunctions.Pow.Real
public import Mathlib.Algebra.BigOperators.Ring.Finset
public import Mathlib.Algebra.BigOperators.Intervals
public import Mathlib.Tactic.FieldSimp
public import Mathlib.Tactic.Ring
public import Mathlib.Tactic.Linarith
public import Mathlib.Tactic.Positivity

@[expose] public section

set_option maxRecDepth 16384

noncomputable section

namespace Cert.Math

open Idealize.ShloMosaic

/-! ## Real numbers among the extended reals -/

/-- A sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of real numbers by one that is not zero. -/
theorem div_coe (a : ℝ) {b : ℝ} (hb : b ≠ 0) : Ideal.div (a : EReal) (b : EReal) = ((a / b : ℝ) : EReal) := by
  unfold Ideal.div
  rw [if_neg (by exact_mod_cast hb), div_eq_mul_inv, EReal.coe_mul, EReal.coe_inv]

/-- The root of a real number that is not negative. -/
theorem sqrt_coe {a : ℝ} (ha : 0 ≤ a) : Ideal.sqrt (a : EReal) = ((Real.sqrt a : ℝ) : EReal) := by
  show (if a < 0 then ⊥ else (Real.sqrt a : EReal)) = _
  rw [if_neg (not_lt.mpr ha)]

/-- The larger of two real numbers. -/
theorem max_coe (a b : ℝ) : max (a : EReal) (b : EReal) = ((max a b : ℝ) : EReal) :=
  (EReal.coe_strictMono.monotone.map_max).symm

/-- The rectifier at a real number. -/
theorem relu_coe (a : ℝ) : max (a : EReal) 0 = ((max a 0 : ℝ) : EReal) := max_coe a 0

/-! ## The constants of the two programs -/

theorem inv_len : Ideal.ofBits .f32 0x37800000#32 = ((1 / 65536 : ℝ) : EReal) := by
  simp [Ideal.ofBits, Ideal.ieee, -EReal.coe_mul]; norm_num
theorem inv_units : Ideal.ofBits .f32 0x3D000000#32 = ((1 / 32 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem len : Ideal.ofBits .f32 0x47800000#32 = ((65536 : ℝ) : EReal) := by
  simp [Ideal.ofBits, Ideal.ieee, -EReal.coe_mul]; norm_num
theorem units : Ideal.ofBits .f32 0x42000000#32 = ((32 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem inf : Ideal.ofBits .f32 0x7F800000#32 = ⊤ := by
  simp [Ideal.ofBits, Ideal.ieee]

/-- What both normalisations add to a variance: the number that the constant's bits stand for. -/
def eps : ℝ := (Ideal.ofBits .f32 0x3727C5AC#32).toReal

theorem eps_coe : Ideal.ofBits .f32 0x3727C5AC#32 = (eps : EReal) := by
  unfold eps
  simp [Ideal.ofBits, Ideal.ieee, -EReal.coe_mul]

theorem eps_pos : 0 < eps := by
  have h : (eps : EReal) = ((10995116 * (2 : ℝ) ^ (-40 : ℤ) : ℝ) : EReal) := by
    rw [← eps_coe]
    simp [Ideal.ofBits, Ideal.ieee, -EReal.coe_mul]
  rw [EReal.coe_eq_coe_iff.mp h]
  positivity

/-! ## Sums over the time steps -/

/-- A sum over `a * b` steps, `a` stretches of `b`. -/
theorem sum_stretches (g : ℕ → ℝ) (a b : ℕ) : ∑ n ∈ Finset.range (a * b), g n = ∑ i ∈ Finset.range a, ∑ j ∈ Finset.range b, g (i * b + j) := by
  induction a with
  | zero => simp
  | succ a ih => rw [Nat.succ_mul, Finset.sum_range_add, ih, Finset.sum_range_succ]

/-- The order in which the kernel adds up the time steps: per lane of 128 over the eight tiles and their 64 rows,
    and then over the lanes. -/
theorem sum_lanes (g : ℕ → ℝ) : ∑ y : Fin 128, ∑ k ∈ Finset.range 8, ∑ x : Fin 64, g (8192 * k + (x.val * 128 + y.val))
    = ∑ t ∈ Finset.range 65536, g t := by
  rw [show 65536 = 8 * 8192 from rfl, sum_stretches, Finset.sum_comm]
  refine Finset.sum_congr rfl fun k _ => ?_
  rw [show 8192 = 64 * 128 from rfl, sum_stretches, Finset.sum_comm, ← Fin.sum_univ_eq_sum_range (fun x => ∑ y ∈ Finset.range 128, g (k * (64 * 128) + (x * 128 + y))) 64]
  refine Finset.sum_congr rfl fun x _ => ?_
  rw [← Fin.sum_univ_eq_sum_range (fun y => g (k * (64 * 128) + (x.val * 128 + y))) 128]
  refine Finset.sum_congr rfl fun y _ => ?_
  rw [Nat.mul_comm]

/-! ## The network over the real numbers -/

/-- The mean over the time steps. -/
def mean (z : ℕ → ℝ) : ℝ := (∑ t ∈ Finset.range 65536, z t) / 65536

/-- The variance over the time steps: the mean of the squared deviations. -/
def var (z : ℕ → ℝ) : ℝ := (∑ t ∈ Finset.range 65536, (z t - mean z) * (z t - mean z)) / 65536

theorem var_nonneg (z : ℕ → ℝ) : 0 ≤ var z :=
  div_nonneg (Finset.sum_nonneg fun t _ => mul_self_nonneg _) (by norm_num)

/-- The variance is the mean of the squares less the square of the mean. -/
theorem var_eq (z : ℕ → ℝ) : var z = (∑ t ∈ Finset.range 65536, z t * z t) / 65536 - mean z * mean z := by
  have h : ∑ t ∈ Finset.range 65536, (z t - mean z) * (z t - mean z)
      = ∑ t ∈ Finset.range 65536, z t * z t - 2 * mean z * ∑ t ∈ Finset.range 65536, z t + 65536 * (mean z * mean z) := by
    rw [Finset.mul_sum, ← Finset.sum_sub_distrib]
    rw [show (65536 : ℝ) * (mean z * mean z) = ∑ t ∈ Finset.range 65536, mean z * mean z by
      rw [Finset.sum_const, Finset.card_range, nsmul_eq_mul]; norm_num]
    rw [← Finset.sum_add_distrib]
    exact Finset.sum_congr rfl fun t _ => by ring
  have hm : ∑ t ∈ Finset.range 65536, z t = 65536 * mean z := by unfold mean; field_simp
  unfold var
  rw [h, hm]
  ring

/-- The mean of a shifted sequence. -/
theorem mean_shift (z : ℕ → ℝ) (b : ℝ) : mean (fun t => z t + b) = mean z + b := by
  unfold mean
  rw [Finset.sum_add_distrib, Finset.sum_const, Finset.card_range, nsmul_eq_mul]
  push_cast
  ring

/-- A shift does not change the variance. -/
theorem var_shift (z : ℕ → ℝ) (b : ℝ) : var (fun t => z t + b) = var z := by
  unfold var
  rw [mean_shift]
  exact congrArg (· / 65536) (Finset.sum_congr rfl fun t _ => by ring)

/-- A normalised value under the rectifier. -/
def norm (g be m v x : ℝ) : ℝ := max (g * (x - m) / Real.sqrt (v + eps) + be) 0

/-- The normalised value in the operations of the programs. -/
theorem norm_coe (g be m v x : ℝ) (hv : 0 ≤ v) :
    max (Ideal.div ((g : EReal) * ((x : EReal) - (m : EReal))) (Ideal.sqrt ((v : EReal) + (eps : EReal))) + (be : EReal)) 0
      = ((norm g be m v x : ℝ) : EReal) := by
  have h := add_pos_of_nonneg_of_pos hv eps_pos
  rw [← EReal.coe_sub, ← EReal.coe_mul, ← EReal.coe_add, sqrt_coe h.le, div_coe _ (Real.sqrt_pos.mpr h).ne', ← EReal.coe_add, relu_coe]
  rfl

/-- The network's inputs as real numbers: six features of each time step, and the weights, shifts and normalisation
    coefficients of the two layers. -/
structure Net where
  f : Fin 6 → ℕ → ℝ
  w1 : Fin 64 → Fin 6 → ℝ
  b1 : Fin 64 → ℝ
  g1 : Fin 64 → ℝ
  be1 : Fin 64 → ℝ
  w2 : Fin 32 → Fin 64 → ℝ
  b2 : Fin 32 → ℝ
  g2 : Fin 32 → ℝ
  be2 : Fin 32 → ℝ

namespace Net

variable (n : Net)

/-- The first layer before its shift. -/
def y1 (j : Fin 64) (t : ℕ) : ℝ := ∑ i, n.w1 j i * n.f i t
/-- The first layer. -/
def z1 (j : Fin 64) (t : ℕ) : ℝ := n.y1 j t + n.b1 j
/-- The hidden units. -/
def hid (j : Fin 64) (t : ℕ) : ℝ := norm (n.g1 j) (n.be1 j) (mean (n.z1 j)) (var (n.z1 j)) (n.z1 j t)
/-- The second layer. -/
def z2 (l : Fin 32) (t : ℕ) : ℝ := ∑ j, n.w2 l j * n.hid j t + n.b2 l
/-- The output units. -/
def act (l : Fin 32) (t : ℕ) : ℝ := norm (n.g2 l) (n.be2 l) (mean (n.z2 l)) (var (n.z2 l)) (n.z2 l t)
/-- The mean of the output units. -/
def avg (t : ℕ) : ℝ := (∑ l, n.act l t) / 32
/-- The mean smoothed over two steps: at the first step the step before is the step itself. -/
def out (t : ℕ) : ℝ := (n.avg t + n.avg (t - 1)) / 2

/-- The first layer's mean from the sums of the features. -/
theorem mean_z1 (j : Fin 64) :
    mean (n.z1 j) = (∑ i, n.w1 j i * ∑ t ∈ Finset.range 65536, n.f i t) * (1 / 65536) + n.b1 j := by
  have h : mean (n.z1 j) = mean (n.y1 j) + n.b1 j := mean_shift (n.y1 j) (n.b1 j)
  rw [h]
  unfold mean y1
  rw [Finset.sum_comm, div_eq_mul_one_div]
  simp only [Finset.mul_sum]

/-- The first layer's variance from the second moments of the features. -/
theorem var_z1 (j : Fin 64) :
    var (n.z1 j) = (∑ i, (∑ k, n.w1 j k * ∑ t ∈ Finset.range 65536, n.f k t * n.f i t) * n.w1 j i) * (1 / 65536)
      - (∑ i, n.w1 j i * ∑ t ∈ Finset.range 65536, n.f i t) * (1 / 65536) * ((∑ i, n.w1 j i * ∑ t ∈ Finset.range 65536, n.f i t) * (1 / 65536)) := by
  have hm : mean (n.y1 j) = (∑ i, n.w1 j i * ∑ t ∈ Finset.range 65536, n.f i t) * (1 / 65536) := by
    unfold mean y1
    rw [Finset.sum_comm, div_eq_mul_one_div]
    simp only [Finset.mul_sum]
  have hq : ∑ t ∈ Finset.range 65536, n.y1 j t * n.y1 j t
      = ∑ i, (∑ k, n.w1 j k * ∑ t ∈ Finset.range 65536, n.f k t * n.f i t) * n.w1 j i := by
    unfold y1
    simp only [Finset.mul_sum, Finset.sum_mul]
    rw [Finset.sum_comm]
    refine Finset.sum_congr rfl fun i _ => ?_
    rw [Finset.sum_comm]
    exact Finset.sum_congr rfl fun k _ => Finset.sum_congr rfl fun t _ => by ring
  have h : var (n.z1 j) = var (n.y1 j) := var_shift (n.y1 j) (n.b1 j)
  rw [h, var_eq, hq, hm, div_eq_mul_one_div]

end Net

end Cert.Math

end
-- ==== Proof.Math.Pre.lean ====
module

public import proofs.«01_k».proof.Proof.Math.Net
public import proofs.«01_k».proof.Proof.Gen.Pre_moments_of_finite
public import Idealize.ShloMosaic.Lib.ReduceAll

@[expose] public section

set_option maxRecDepth 16384

noncomputable section

namespace Cert.Math

open Idealize.ShloMosaic

/-! ## The precondition -/

/-- A comparison's bit is one exactly when what it compares holds. -/
theorem ofBool_decide {p : Prop} [Decidable p] (h : BitVec.ofBool (decide p) = 1#1) : p := by
  by_contra hp
  rw [decide_eq_false hp] at h
  exact absurd h (by decide)

/-- An extended real whose absolute value is below infinity is a real number. -/
theorem real_of_abs_lt {x : EReal} (h : max x (-x) < ⊤) : x = ((x.toReal : ℝ) : EReal) := by
  refine (EReal.coe_toReal ?_ ?_).symm
  · rintro rfl; simp at h
  · rintro rfl; simp at h

/-- The test that all entries of an array are finite: where it passes, every entry is a real number. -/
theorem finite_entries {s u : Shape} {axes : List (Fin s.rank)} (x : FVec Ideal s .f32) (hb : (⟨0, ![]⟩ : Shape).BroadcastsInDim s ![])
    (init : IVec u 1) (hr : s.ReducesTo axes ⟨0, ![]⟩) (hu : 0 < u.numel)
    (h : Host.reduce IntOp.andi (cmpf .olt (Host.absf x) (broadcastInDim s ![] hb (constant ⟨0, ![]⟩ .f32 0x7F800000#32))) init hr hu ix0 = 1#1)
    (i : s.Idx) : x i = (((x i).toReal : ℝ) : EReal) := by
  haveI : Subsingleton (⟨0, ![]⟩ : Shape).Idx := ⟨fun a b => funext fun i => i.elim0⟩
  have e := Host.reduce_andi_all _ init hr hu ix0 h i
  have e' : BitVec.ofBool (decide (max (x i) (-(x i)) < Ideal.ofBits .f32 0x7F800000#32)) = 1#1 := e
  rw [inf] at e'
  exact real_of_abs_lt (ofBool_decide e')

/-- The test that two arrays are equal: where it passes, their entries are. -/
theorem equal_entries {s u : Shape} {axes : List (Fin s.rank)} (x y : FVec Ideal s .f32)
    (init : IVec u 1) (hr : s.ReducesTo axes ⟨0, ![]⟩) (hu : 0 < u.numel)
    (h : Host.reduce IntOp.andi (cmpf .oeq x y) init hr hu ix0 = 1#1) (i : s.Idx) : x i = y i := by
  haveI : Subsingleton (⟨0, ![]⟩ : Shape).Idx := ⟨fun a b => funext fun i => i.elim0⟩
  have e := Host.reduce_andi_all _ init hr hu ix0 h i
  have e' : BitVec.ofBool (decide (x i = y i)) = 1#1 := e
  exact ofBool_decide e'

/-- The arrays hold a network's inputs, and the moments array the features' sums and second moments. -/
structure Holds (n : Net) (a0 : FVec Ideal ⟨2, ![8, 65536]⟩ .f32) (a2 : FVec Ideal ⟨2, ![8, 128]⟩ .f32) (a3 : FVec Ideal ⟨2, ![64, 6]⟩ .f32)
    (a4 a5 a6 : FVec Ideal ⟨1, ![64]⟩ .f32) (a7 : FVec Ideal ⟨2, ![32, 64]⟩ .f32) (a8 a9 a10 : FVec Ideal ⟨1, ![32]⟩ .f32) : Prop where
  f : ∀ (i : Fin 6) (t : Fin 65536), a0 (ix2 ⟨i.val, by omega⟩ t) = ((n.f i t.val : ℝ) : EReal)
  mom : ∀ i k : Fin 6, a2 (ix2 ⟨i.val, by omega⟩ ⟨k.val, by omega⟩) = ((∑ t ∈ Finset.range 65536, n.f i t * n.f k t : ℝ) : EReal)
  sum : ∀ i : Fin 6, a2 (ix2 ⟨i.val, by omega⟩ 8) = ((∑ t ∈ Finset.range 65536, n.f i t : ℝ) : EReal)
  w1 : ∀ (j : Fin 64) (i : Fin 6), a3 (ix2 j i) = ((n.w1 j i : ℝ) : EReal)
  b1 : ∀ j : Fin 64, a4 (ix1 j) = ((n.b1 j : ℝ) : EReal)
  g1 : ∀ j : Fin 64, a5 (ix1 j) = ((n.g1 j : ℝ) : EReal)
  be1 : ∀ j : Fin 64, a6 (ix1 j) = ((n.be1 j : ℝ) : EReal)
  w2 : ∀ (l : Fin 32) (j : Fin 64), a7 (ix2 l j) = ((n.w2 l j : ℝ) : EReal)
  b2 : ∀ l : Fin 32, a8 (ix1 l) = ((n.b2 l : ℝ) : EReal)
  g2 : ∀ l : Fin 32, a9 (ix1 l) = ((n.g2 l : ℝ) : EReal)
  be2 : ∀ l : Fin 32, a10 (ix1 l) = ((n.be2 l : ℝ) : EReal)

/-- The network that arrays of finite entries hold. -/
def netOf (a0 : FVec Ideal ⟨2, ![8, 65536]⟩ .f32) (a3 : FVec Ideal ⟨2, ![64, 6]⟩ .f32)
    (a4 a5 a6 : FVec Ideal ⟨1, ![64]⟩ .f32) (a7 : FVec Ideal ⟨2, ![32, 64]⟩ .f32) (a8 a9 a10 : FVec Ideal ⟨1, ![32]⟩ .f32) : Net where
  f i t := if h : t < 65536 then EReal.toReal (a0 (ix2 ⟨i.val, by omega⟩ ⟨t, h⟩)) else 0
  w1 j i := EReal.toReal (a3 (ix2 j i))
  b1 j := EReal.toReal (a4 (ix1 j))
  g1 j := EReal.toReal (a5 (ix1 j))
  be1 j := EReal.toReal (a6 (ix1 j))
  w2 l j := EReal.toReal (a7 (ix2 l j))
  b2 l := EReal.toReal (a8 (ix1 l))
  g2 l := EReal.toReal (a9 (ix1 l))
  be2 l := EReal.toReal (a10 (ix1 l))

open Cert.Pre_moments_of_finite in
/-- The precondition: the arrays hold a network's inputs and its features' moments. -/
theorem holds_of_pre [Cert.Pre_moments_of_finite.Facts] (a0 : FVec Ideal ⟨2, ![8, 65536]⟩ .f32) (a1 : FVec Ideal ⟨2, ![1, 65536]⟩ .f32)
    (a2 : FVec Ideal ⟨2, ![8, 128]⟩ .f32) (a3 : FVec Ideal ⟨2, ![64, 6]⟩ .f32)
    (a4 a5 a6 : FVec Ideal ⟨1, ![64]⟩ .f32) (a7 : FVec Ideal ⟨2, ![32, 64]⟩ .f32) (a8 a9 a10 : FVec Ideal ⟨1, ![32]⟩ .f32)
    (h : fn (F := Ideal) a0 a1 a2 a3 a4 a5 a6 a7 a8 a9 a10 = fun _ => 1#1) :
    Holds (netOf a0 a3 a4 a5 a6 a7 a8 a9 a10) a0 a2 a3 a4 a5 a6 a7 a8 a9 a10 := by
  have h0 := congrFun h ix0
  simp only [fn, fn_part1, fn_part2, fn_part3] at h0
  obtain ⟨h0, hsum⟩ := IntOp.andi_eq_one.1 h0
  obtain ⟨h0, hmom⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨-, hf⟩ := IntOp.andi_eq_one.1 h0
  have hf' : ∀ (i : Fin 6) (t : Fin 65536), a0 (ix2 ⟨i.val, by omega⟩ t)
      = (((netOf a0 a3 a4 a5 a6 a7 a8 a9 a10).f i t.val : ℝ) : EReal) := fun i t => by
    have e := finite_entries _ _ _ _ _ hf (ix2 i t)
    pointwise at e
    refine e.trans ?_
    simp only [netOf, t.isLt, dif_pos]
  have hpair : ∀ (i k : Fin 6), ∑ t : Fin 65536, a0 (ix2 ⟨i.val, by omega⟩ t) * a0 (ix2 ⟨k.val, by omega⟩ t)
      = ((∑ t ∈ Finset.range 65536, (netOf a0 a3 a4 a5 a6 a7 a8 a9 a10).f i t * (netOf a0 a3 a4 a5 a6 a7 a8 a9 a10).f k t : ℝ) : EReal) := fun i k => by
    rw [← Fin.sum_univ_eq_sum_range (fun t => (netOf a0 a3 a4 a5 a6 a7 a8 a9 a10).f i t * (netOf a0 a3 a4 a5 a6 a7 a8 a9 a10).f k t) 65536, coe_sum]
    exact Finset.sum_congr rfl fun t _ => by rw [hf', hf', EReal.coe_mul]
  have hone : ∀ (i : Fin 6), ∑ t : Fin 65536, a0 (ix2 ⟨i.val, by omega⟩ t)
      = ((∑ t ∈ Finset.range 65536, (netOf a0 a3 a4 a5 a6 a7 a8 a9 a10).f i t : ℝ) : EReal) := fun i => by
    rw [← Fin.sum_univ_eq_sum_range (fun t => (netOf a0 a3 a4 a5 a6 a7 a8 a9 a10).f i t) 65536, coe_sum]
    exact Finset.sum_congr rfl fun t _ => hf' i t
  refine ⟨hf', fun i k => ?_, fun i => ?_, fun j i => finite_entries _ _ _ _ _ h3 (ix2 j i), fun j => finite_entries _ _ _ _ _ h4 (ix1 j),
    fun j => finite_entries _ _ _ _ _ h5 (ix1 j), fun j => finite_entries _ _ _ _ _ h6 (ix1 j), fun j l => finite_entries _ _ _ _ _ h7 (ix2 j l),
    fun j => finite_entries _ _ _ _ _ h8 (ix1 j), fun j => finite_entries _ _ _ _ _ h9 (ix1 j), fun j => finite_entries _ _ _ _ _ h10 (ix1 j)⟩
  · have e := equal_entries _ _ _ _ _ hmom (ix2 i k)
    pointwise at e
    exact e.trans (hpair i k)
  · have e := equal_entries _ _ _ _ _ hsum (ix1 i)
    pointwise at e
    exact e.trans (hone i)

end Cert.Math

end
-- ==== Proof.KI.Reads.lean ====
module

public import proofs.«01_k».proof.Proof.KI.Final
public import proofs.«01_k».proof.Proof.Math.Pre
public import Idealize.ShloMosaic.Lib.Pointwise

@[expose] public section

set_option maxRecDepth 16384

noncomputable section

namespace Cert.KernelIdeal.Run

open Idealize.ShloMosaic Idealize.ShloMosaic.TcCoe
open Cert.KernelIdeal.Gen

variable (m : (ℓ : Loc nD τ sig) → Buf (Elt Ideal) ℓ)

/-! ## What the kernel's operands hold when it starts -/

/-- The first layer's weights as the kernel reads them: the argument with two columns of zeros added. -/
theorem V_v0 (c : Dev nD) : (V m c main_v0 : FVec Ideal S64x8 .f32)
    = @pad S64x6 (Ideal .f32) S64x8 ![0, 0] ![0, 2] ![0, 0] (m (c.tc.loc main_arg3)) S_ (sitofp (F := Ideal) .f32 (constantI S_ 32 0#32)) pads_S64x6_S64x8_000_020 h_S_ := by
  show StableHlo.after [hostOps0, hostOps0_1, hostOps0_2].flatten (fun b => m (c, b)) (Proc.devRef .tc main_v0) = _
  simp only [hostOps0, hostOps0_1, hostOps0_2, StableHlo.TRef.unary, StableHlo.TRef.binary, StableHlo.TRef.toBuf, StableHlo.TRef.ofBuf, cast_eq,
    List.flatten_cons, List.flatten_nil, List.append_nil, List.cons_append, List.nil_append]
  after_results_simp

/-- Column `i < 6` of the padded weights is the argument's. -/
theorem V_w1 (c : Dev nD) (j : Fin 64) (i : Fin 8) (hi : i.val < 6) :
    (V m c main_v0 : FVec Ideal S64x8 .f32) (ix2 j i) = (m (c.tc.loc main_arg3) : FVec Ideal S64x6 .f32) (ix2 j ⟨i.val, hi⟩) := by
  rw [V_v0]
  pointwise []
  exact dif_pos hi

/-- The two columns added by padding hold zero. -/
theorem V_w1_pad (c : Dev nD) (j : Fin 64) (i : Fin 8) (hi : ¬ i.val < 6) :
    @Eq EReal ((V m c main_v0 : FVec Ideal S64x8 .f32) (ix2 j i)) 0 := by
  rw [V_v0]
  pointwise []
  refine (dif_neg hi).trans ?_
  show ((((0#32 : BitVec 32).toInt : ℝ)) : EReal) = 0
  simp

/-- Operand `main_v1` is argument 4 as a column. -/
theorem V_v1 (c : Dev nD) (j : Fin 64) :
    (V m c main_v1 : FVec Ideal S64x1 .f32) (ix2 j 0) = (m (c.tc.loc main_arg4) : FVec Ideal S64 .f32) (ix1 j) := by
  have e : (V m c main_v1 : FVec Ideal S64x1 .f32) = shapeCast S64x1 (m (c.tc.loc main_arg4) : FVec Ideal S64 .f32) shapeCasts_S64_S64x1 := by
    show StableHlo.after [hostOps0, hostOps0_1, hostOps0_2].flatten (fun b => m (c, b)) (Proc.devRef .tc main_v1) = _
    simp only [hostOps0, hostOps0_1, hostOps0_2, StableHlo.TRef.unary, StableHlo.TRef.binary, StableHlo.TRef.toBuf, StableHlo.TRef.ofBuf, cast_eq,
      List.flatten_cons, List.flatten_nil, List.append_nil, List.cons_append, List.nil_append]
    after_results_simp
    rfl
  rw [e]
  pointwise []

/-- Operand `main_v2` is argument 5 as a column. -/
theorem V_v2 (c : Dev nD) (j : Fin 64) :
    (V m c main_v2 : FVec Ideal S64x1 .f32) (ix2 j 0) = (m (c.tc.loc main_arg5) : FVec Ideal S64 .f32) (ix1 j) := by
  have e : (V m c main_v2 : FVec Ideal S64x1 .f32) = shapeCast S64x1 (m (c.tc.loc main_arg5) : FVec Ideal S64 .f32) shapeCasts_S64_S64x1 := by
    show StableHlo.after [hostOps0, hostOps0_1, hostOps0_2].flatten (fun b => m (c, b)) (Proc.devRef .tc main_v2) = _
    simp only [hostOps0, hostOps0_1, hostOps0_2, StableHlo.TRef.unary, StableHlo.TRef.binary, StableHlo.TRef.toBuf, StableHlo.TRef.ofBuf, cast_eq,
      List.flatten_cons, List.flatten_nil, List.append_nil, List.cons_append, List.nil_append]
    after_results_simp
    rfl
  rw [e]
  pointwise []

/-- Operand `main_v3` is argument 6 as a column. -/
theorem V_v3 (c : Dev nD) (j : Fin 64) :
    (V m c main_v3 : FVec Ideal S64x1 .f32) (ix2 j 0) = (m (c.tc.loc main_arg6) : FVec Ideal S64 .f32) (ix1 j) := by
  have e : (V m c main_v3 : FVec Ideal S64x1 .f32) = shapeCast S64x1 (m (c.tc.loc main_arg6) : FVec Ideal S64 .f32) shapeCasts_S64_S64x1 := by
    show StableHlo.after [hostOps0, hostOps0_1, hostOps0_2].flatten (fun b => m (c, b)) (Proc.devRef .tc main_v3) = _
    simp only [hostOps0, hostOps0_1, hostOps0_2, StableHlo.TRef.unary, StableHlo.TRef.binary, StableHlo.TRef.toBuf, StableHlo.TRef.ofBuf, cast_eq,
      List.flatten_cons, List.flatten_nil, List.append_nil, List.cons_append, List.nil_append]
    after_results_simp
    rfl
  rw [e]
  pointwise []

/-- Operand `main_v4` is argument 8 as a column. -/
theorem V_v4 (c : Dev nD) (j : Fin 32) :
    (V m c main_v4 : FVec Ideal S32x1 .f32) (ix2 j 0) = (m (c.tc.loc main_arg8) : FVec Ideal S32 .f32) (ix1 j) := by
  have e : (V m c main_v4 : FVec Ideal S32x1 .f32) = shapeCast S32x1 (m (c.tc.loc main_arg8) : FVec Ideal S32 .f32) shapeCasts_S32_S32x1 := by
    show StableHlo.after [hostOps0, hostOps0_1, hostOps0_2].flatten (fun b => m (c, b)) (Proc.devRef .tc main_v4) = _
    simp only [hostOps0, hostOps0_1, hostOps0_2, StableHlo.TRef.unary, StableHlo.TRef.binary, StableHlo.TRef.toBuf, StableHlo.TRef.ofBuf, cast_eq,
      List.flatten_cons, List.flatten_nil, List.append_nil, List.cons_append, List.nil_append]
    after_results_simp
    rfl
  rw [e]
  pointwise []

/-- Operand `main_v5` is argument 9 as a column. -/
theorem V_v5 (c : Dev nD) (j : Fin 32) :
    (V m c main_v5 : FVec Ideal S32x1 .f32) (ix2 j 0) = (m (c.tc.loc main_arg9) : FVec Ideal S32 .f32) (ix1 j) := by
  have e : (V m c main_v5 : FVec Ideal S32x1 .f32) = shapeCast S32x1 (m (c.tc.loc main_arg9) : FVec Ideal S32 .f32) shapeCasts_S32_S32x1 := by
    show StableHlo.after [hostOps0, hostOps0_1, hostOps0_2].flatten (fun b => m (c, b)) (Proc.devRef .tc main_v5) = _
    simp only [hostOps0, hostOps0_1, hostOps0_2, StableHlo.TRef.unary, StableHlo.TRef.binary, StableHlo.TRef.toBuf, StableHlo.TRef.ofBuf, cast_eq,
      List.flatten_cons, List.flatten_nil, List.append_nil, List.cons_append, List.nil_append]
    after_results_simp
    rfl
  rw [e]
  pointwise []

/-- Operand `main_v6` is argument 10 as a column. -/
theorem V_v6 (c : Dev nD) (j : Fin 32) :
    (V m c main_v6 : FVec Ideal S32x1 .f32) (ix2 j 0) = (m (c.tc.loc main_arg10) : FVec Ideal S32 .f32) (ix1 j) := by
  have e : (V m c main_v6 : FVec Ideal S32x1 .f32) = shapeCast S32x1 (m (c.tc.loc main_arg10) : FVec Ideal S32 .f32) shapeCasts_S32_S32x1 := by
    show StableHlo.after [hostOps0, hostOps0_1, hostOps0_2].flatten (fun b => m (c, b)) (Proc.devRef .tc main_v6) = _
    simp only [hostOps0, hostOps0_1, hostOps0_2, StableHlo.TRef.unary, StableHlo.TRef.binary, StableHlo.TRef.toBuf, StableHlo.TRef.ofBuf, cast_eq,
      List.flatten_cons, List.flatten_nil, List.append_nil, List.cons_append, List.nil_append]
    after_results_simp
    rfl
  rw [e]
  pointwise []

/-! ## What each window reads -/

/-- Window 0's block at point `t`. -/
theorem index0 (t : Fin cfg0.N) : win0_0.index t = ![0, t.val % 8] := by
  show cc0_transform_0 (grid0.coords t) = _
  unfold cc0_transform_0
  rw [coord1]
  have : (BitVec.ofNat 32 (t.val % 8)).toNat = t.val % 8 := by
    rw [BitVec.toNat_ofNat]; exact Nat.mod_eq_of_lt (by omega)
  simp only [this]
  rfl

/-- Window 0 reads tile `t % 8` of its argument. -/
theorem read0 (c : Dev nD) (t : Fin cfg0.N) (i : Fin 8) (y : Fin 8192) :
    (iblk m c 0 t : FVec Ideal S8x8192 .f32) (ix2 i y)
      = (m (c.tc.loc main_arg0) : FVec Ideal S8x65536 .f32) (ix2 i ⟨8192 * (t.val % 8) + y.val, by omega⟩) := by
  show (V m c main_arg0 : FVec Ideal S8x65536 .f32) ((win0_0.blk t).view.emb (ix2 i y)) = _
  rw [V_main_arg0]
  congr 1
  funext a
  apply Fin.ext
  match a with
  | 0 =>
    have h2 := Pipeline.Window.rect_emb_val win0_0 t (ix2 i y) 0
    rw [index0] at h2
    refine Eq.trans h2 ?_
    show 0 * 8 + i.val = i.val
    omega
  | 1 =>
    have h2 := Pipeline.Window.rect_emb_val win0_0 t (ix2 i y) 1
    rw [index0] at h2
    refine Eq.trans h2 ?_
    show (t.val % 8) * 8192 + y.val = 8192 * (t.val % 8) + y.val
    omega

/-- Window 1's block at point `t`. -/
theorem index1 (t : Fin cfg0.N) : win0_1.index t = ![0, t.val % 8] := by
  show cc0_transform_1 (grid0.coords t) = _
  unfold cc0_transform_1
  rw [coord1]
  have : (BitVec.ofNat 32 (t.val % 8)).toNat = t.val % 8 := by
    rw [BitVec.toNat_ofNat]; exact Nat.mod_eq_of_lt (by omega)
  simp only [this]
  rfl

/-- Window 1 reads tile `t % 8` of its argument. -/
theorem read1 (c : Dev nD) (t : Fin cfg0.N) (i : Fin 1) (y : Fin 8192) :
    (iblk m c 1 t : FVec Ideal S1x8192 .f32) (ix2 i y)
      = (m (c.tc.loc main_arg1) : FVec Ideal S1x65536 .f32) (ix2 i ⟨8192 * (t.val % 8) + y.val, by omega⟩) := by
  show (V m c main_arg1 : FVec Ideal S1x65536 .f32) ((win0_1.blk t).view.emb (ix2 i y)) = _
  rw [V_main_arg1]
  congr 1
  funext a
  apply Fin.ext
  match a with
  | 0 =>
    have h2 := Pipeline.Window.rect_emb_val win0_1 t (ix2 i y) 0
    rw [index1] at h2
    refine Eq.trans h2 ?_
    show 0 * 1 + i.val = i.val
    omega
  | 1 =>
    have h2 := Pipeline.Window.rect_emb_val win0_1 t (ix2 i y) 1
    rw [index1] at h2
    refine Eq.trans h2 ?_
    show (t.val % 8) * 8192 + y.val = 8192 * (t.val % 8) + y.val
    omega

/-- Window 2's block at point `t`. -/
theorem index2 (t : Fin cfg0.N) : win0_2.index t = ![0, 0] := by
  show cc0_transform_2 (grid0.coords t) = _
  rfl

/-- Window 2 reads its whole array. -/
theorem read2 (c : Dev nD) (t : Fin cfg0.N) (i : Fin 8) (y : Fin 128) :
    (iblk m c 2 t : FVec Ideal S8x128 .f32) (ix2 i y) = (V m c main_arg2 : FVec Ideal S8x128 .f32) (ix2 i y) := by
  show (V m c main_arg2 : FVec Ideal S8x128 .f32) ((win0_2.blk t).view.emb (ix2 i y)) = _
  congr 1
  funext a
  apply Fin.ext
  match a with
  | 0 =>
    have h2 := Pipeline.Window.rect_emb_val win0_2 t (ix2 i y) 0
    rw [index2] at h2
    refine Eq.trans h2 ?_
    show 0 * 8 + i.val = i.val
    omega
  | 1 =>
    have h2 := Pipeline.Window.rect_emb_val win0_2 t (ix2 i y) 1
    rw [index2] at h2
    refine Eq.trans h2 ?_
    show 0 * 128 + y.val = y.val
    omega

/-- Window 3's block at point `t`. -/
theorem index3 (t : Fin cfg0.N) : win0_3.index t = ![0, 0] := by
  show cc0_transform_3 (grid0.coords t) = _
  rfl

/-- Window 3 reads its whole array. -/
theorem read3 (c : Dev nD) (t : Fin cfg0.N) (i : Fin 64) (y : Fin 8) :
    (iblk m c 3 t : FVec Ideal S64x8 .f32) (ix2 i y) = (V m c main_v0 : FVec Ideal S64x8 .f32) (ix2 i y) := by
  show (V m c main_v0 : FVec Ideal S64x8 .f32) ((win0_3.blk t).view.emb (ix2 i y)) = _
  congr 1
  funext a
  apply Fin.ext
  match a with
  | 0 =>
    have h2 := Pipeline.Window.rect_emb_val win0_3 t (ix2 i y) 0
    rw [index3] at h2
    refine Eq.trans h2 ?_
    show 0 * 64 + i.val = i.val
    omega
  | 1 =>
    have h2 := Pipeline.Window.rect_emb_val win0_3 t (ix2 i y) 1
    rw [index3] at h2
    refine Eq.trans h2 ?_
    show 0 * 8 + y.val = y.val
    omega

/-- Window 4's block at point `t`. -/
theorem index4 (t : Fin cfg0.N) : win0_4.index t = ![0, 0] := by
  show cc0_transform_4 (grid0.coords t) = _
  rfl

/-- Window 4 reads its whole array. -/
theorem read4 (c : Dev nD) (t : Fin cfg0.N) (i : Fin 64) (y : Fin 1) :
    (iblk m c 4 t : FVec Ideal S64x1 .f32) (ix2 i y) = (V m c main_v1 : FVec Ideal S64x1 .f32) (ix2 i y) := by
  show (V m c main_v1 : FVec Ideal S64x1 .f32) ((win0_4.blk t).view.emb (ix2 i y)) = _
  congr 1
  funext a
  apply Fin.ext
  match a with
  | 0 =>
    have h2 := Pipeline.Window.rect_emb_val win0_4 t (ix2 i y) 0
    rw [index4] at h2
    refine Eq.trans h2 ?_
    show 0 * 64 + i.val = i.val
    omega
  | 1 =>
    have h2 := Pipeline.Window.rect_emb_val win0_4 t (ix2 i y) 1
    rw [index4] at h2
    refine Eq.trans h2 ?_
    show 0 * 1 + y.val = y.val
    omega

/-- Window 5's block at point `t`. -/
theorem index5 (t : Fin cfg0.N) : win0_5.index t = ![0, 0] := by
  show cc0_transform_5 (grid0.coords t) = _
  rfl

/-- Window 5 reads its whole array. -/
theorem read5 (c : Dev nD) (t : Fin cfg0.N) (i : Fin 64) (y : Fin 1) :
    (iblk m c 5 t : FVec Ideal S64x1 .f32) (ix2 i y) = (V m c main_v2 : FVec Ideal S64x1 .f32) (ix2 i y) := by
  show (V m c main_v2 : FVec Ideal S64x1 .f32) ((win0_5.blk t).view.emb (ix2 i y)) = _
  congr 1
  funext a
  apply Fin.ext
  match a with
  | 0 =>
    have h2 := Pipeline.Window.rect_emb_val win0_5 t (ix2 i y) 0
    rw [index5] at h2
    refine Eq.trans h2 ?_
    show 0 * 64 + i.val = i.val
    omega
  | 1 =>
    have h2 := Pipeline.Window.rect_emb_val win0_5 t (ix2 i y) 1
    rw [index5] at h2
    refine Eq.trans h2 ?_
    show 0 * 1 + y.val = y.val
    omega

/-- Window 6's block at point `t`. -/
theorem index6 (t : Fin cfg0.N) : win0_6.index t = ![0, 0] := by
  show cc0_transform_6 (grid0.coords t) = _
  rfl

/-- Window 6 reads its whole array. -/
theorem read6 (c : Dev nD) (t : Fin cfg0.N) (i : Fin 64) (y : Fin 1) :
    (iblk m c 6 t : FVec Ideal S64x1 .f32) (ix2 i y) = (V m c main_v3 : FVec Ideal S64x1 .f32) (ix2 i y) := by
  show (V m c main_v3 : FVec Ideal S64x1 .f32) ((win0_6.blk t).view.emb (ix2 i y)) = _
  congr 1
  funext a
  apply Fin.ext
  match a with
  | 0 =>
    have h2 := Pipeline.Window.rect_emb_val win0_6 t (ix2 i y) 0
    rw [index6] at h2
    refine Eq.trans h2 ?_
    show 0 * 64 + i.val = i.val
    omega
  | 1 =>
    have h2 := Pipeline.Window.rect_emb_val win0_6 t (ix2 i y) 1
    rw [index6] at h2
    refine Eq.trans h2 ?_
    show 0 * 1 + y.val = y.val
    omega

/-- Window 7's block at point `t`. -/
theorem index7 (t : Fin cfg0.N) : win0_7.index t = ![0, 0] := by
  show cc0_transform_7 (grid0.coords t) = _
  rfl

/-- Window 7 reads its whole array. -/
theorem read7 (c : Dev nD) (t : Fin cfg0.N) (i : Fin 32) (y : Fin 64) :
    (iblk m c 7 t : FVec Ideal S32x64 .f32) (ix2 i y) = (V m c main_arg7 : FVec Ideal S32x64 .f32) (ix2 i y) := by
  show (V m c main_arg7 : FVec Ideal S32x64 .f32) ((win0_7.blk t).view.emb (ix2 i y)) = _
  congr 1
  funext a
  apply Fin.ext
  match a with
  | 0 =>
    have h2 := Pipeline.Window.rect_emb_val win0_7 t (ix2 i y) 0
    rw [index7] at h2
    refine Eq.trans h2 ?_
    show 0 * 32 + i.val = i.val
    omega
  | 1 =>
    have h2 := Pipeline.Window.rect_emb_val win0_7 t (ix2 i y) 1
    rw [index7] at h2
    refine Eq.trans h2 ?_
    show 0 * 64 + y.val = y.val
    omega

/-- Window 8's block at point `t`. -/
theorem index8 (t : Fin cfg0.N) : win0_8.index t = ![0, 0] := by
  show cc0_transform_8 (grid0.coords t) = _
  rfl

/-- Window 8 reads its whole array. -/
theorem read8 (c : Dev nD) (t : Fin cfg0.N) (i : Fin 32) (y : Fin 1) :
    (iblk m c 8 t : FVec Ideal S32x1 .f32) (ix2 i y) = (V m c main_v4 : FVec Ideal S32x1 .f32) (ix2 i y) := by
  show (V m c main_v4 : FVec Ideal S32x1 .f32) ((win0_8.blk t).view.emb (ix2 i y)) = _
  congr 1
  funext a
  apply Fin.ext
  match a with
  | 0 =>
    have h2 := Pipeline.Window.rect_emb_val win0_8 t (ix2 i y) 0
    rw [index8] at h2
    refine Eq.trans h2 ?_
    show 0 * 32 + i.val = i.val
    omega
  | 1 =>
    have h2 := Pipeline.Window.rect_emb_val win0_8 t (ix2 i y) 1
    rw [index8] at h2
    refine Eq.trans h2 ?_
    show 0 * 1 + y.val = y.val
    omega

/-- Window 9's block at point `t`. -/
theorem index9 (t : Fin cfg0.N) : win0_9.index t = ![0, 0] := by
  show cc0_transform_9 (grid0.coords t) = _
  rfl

/-- Window 9 reads its whole array. -/
theorem read9 (c : Dev nD) (t : Fin cfg0.N) (i : Fin 32) (y : Fin 1) :
    (iblk m c 9 t : FVec Ideal S32x1 .f32) (ix2 i y) = (V m c main_v5 : FVec Ideal S32x1 .f32) (ix2 i y) := by
  show (V m c main_v5 : FVec Ideal S32x1 .f32) ((win0_9.blk t).view.emb (ix2 i y)) = _
  congr 1
  funext a
  apply Fin.ext
  match a with
  | 0 =>
    have h2 := Pipeline.Window.rect_emb_val win0_9 t (ix2 i y) 0
    rw [index9] at h2
    refine Eq.trans h2 ?_
    show 0 * 32 + i.val = i.val
    omega
  | 1 =>
    have h2 := Pipeline.Window.rect_emb_val win0_9 t (ix2 i y) 1
    rw [index9] at h2
    refine Eq.trans h2 ?_
    show 0 * 1 + y.val = y.val
    omega

/-- Window 10's block at point `t`. -/
theorem index10 (t : Fin cfg0.N) : win0_10.index t = ![0, 0] := by
  show cc0_transform_10 (grid0.coords t) = _
  rfl

/-- Window 10 reads its whole array. -/
theorem read10 (c : Dev nD) (t : Fin cfg0.N) (i : Fin 32) (y : Fin 1) :
    (iblk m c 10 t : FVec Ideal S32x1 .f32) (ix2 i y) = (V m c main_v6 : FVec Ideal S32x1 .f32) (ix2 i y) := by
  show (V m c main_v6 : FVec Ideal S32x1 .f32) ((win0_10.blk t).view.emb (ix2 i y)) = _
  congr 1
  funext a
  apply Fin.ext
  match a with
  | 0 =>
    have h2 := Pipeline.Window.rect_emb_val win0_10 t (ix2 i y) 0
    rw [index10] at h2
    refine Eq.trans h2 ?_
    show 0 * 32 + i.val = i.val
    omega
  | 1 =>
    have h2 := Pipeline.Window.rect_emb_val win0_10 t (ix2 i y) 1
    rw [index10] at h2
    refine Eq.trans h2 ?_
    show 0 * 1 + y.val = y.val
    omega

end Cert.KernelIdeal.Run

end
-- ==== Proof.KI.Numbers.lean ====
module

public import proofs.«01_k».proof.Proof.KI.Reads

@[expose] public section

set_option maxRecDepth 16384

noncomputable section

namespace Cert.KernelIdeal.Run

open Idealize.ShloMosaic Idealize.ShloMosaic.TcCoe
open Cert.KernelIdeal.Gen Cert.Math

/-! ## The kernel's arithmetic on numbers -/

/-- A sum of eight products whose last two weights are zero. -/
theorem dot8 (w x : Fin 8 → EReal) (w' x' : Fin 6 → ℝ) (hw : ∀ i : Fin 6, w ⟨i.val, by omega⟩ = ((w' i : ℝ) : EReal))
    (hw0 : ∀ i : Fin 8, ¬ i.val < 6 → w i = 0) (hx : ∀ i : Fin 6, x ⟨i.val, by omega⟩ = ((x' i : ℝ) : EReal)) :
    ∑ i, w i * x i = ((∑ i, w' i * x' i : ℝ) : EReal) := by
  rw [Fin.sum_univ_castSucc (n := 7), Fin.sum_univ_castSucc (n := 6), hw0 (Fin.last 7) (by decide),
    hw0 (Fin.castSucc (Fin.last 6)) (by decide), zero_mul, zero_mul, add_zero, add_zero, coe_sum]
  refine Finset.sum_congr rfl fun i _ => ?_
  rw [EReal.coe_mul, ← hw i, ← hx i]
  rfl

/-- One element of the first layer, normalised with the moments. -/
theorem hidden_num (n : Net) (j : Fin 64) (t : ℕ) (w x s : Fin 8 → EReal) (q : Fin 8 → Fin 8 → EReal) (b g be : EReal)
    (hw : ∀ i : Fin 6, w ⟨i.val, by omega⟩ = ((n.w1 j i : ℝ) : EReal)) (hw0 : ∀ i : Fin 8, ¬ i.val < 6 → w i = 0)
    (hx : ∀ i : Fin 6, x ⟨i.val, by omega⟩ = ((n.f i t : ℝ) : EReal))
    (hs : ∀ i : Fin 6, s ⟨i.val, by omega⟩ = ((∑ t ∈ Finset.range 65536, n.f i t : ℝ) : EReal))
    (hq : ∀ i k : Fin 6, q ⟨i.val, by omega⟩ ⟨k.val, by omega⟩ = ((∑ t ∈ Finset.range 65536, n.f i t * n.f k t : ℝ) : EReal))
    (hb : b = ((n.b1 j : ℝ) : EReal)) (hg : g = ((n.g1 j : ℝ) : EReal)) (hbe : be = ((n.be1 j : ℝ) : EReal)) :
    max (Ideal.div (g * (∑ i, w i * x i + b - ((∑ i, w i * s i) * Ideal.ofBits .f32 0x37800000#32 + b)))
      (Ideal.sqrt ((∑ i, (∑ k, w k * q k i) * w i) * Ideal.ofBits .f32 0x37800000#32
        - (∑ i, w i * s i) * Ideal.ofBits .f32 0x37800000#32 * ((∑ i, w i * s i) * Ideal.ofBits .f32 0x37800000#32)
        + Ideal.ofBits .f32 0x3727C5AC#32)) + be) 0 = ((n.hid j t : ℝ) : EReal) := by
  have e1 := dot8 w x _ _ hw hw0 hx
  have e2 := dot8 w s _ _ hw hw0 hs
  have e3 : ∑ i, (∑ k, w k * q k i) * w i
      = ((∑ i, (∑ k, n.w1 j k * ∑ t ∈ Finset.range 65536, n.f k t * n.f i t) * n.w1 j i : ℝ) : EReal) := by
    have h := dot8 w (fun i => ∑ k, w k * q k i) _ _ hw hw0 (fun i => dot8 w (fun k => q k ⟨i.val, by omega⟩) _ _ hw hw0 (fun k => hq k i))
    calc _ = ∑ i, w i * ∑ k, w k * q k i := Finset.sum_congr rfl fun i _ => mul_comm _ _
      _ = _ := h
      _ = _ := congrArg _ (Finset.sum_congr rfl fun i _ => mul_comm _ _)
  rw [e1, e2, e3, hb, hg, hbe, inv_len, eps_coe]
  have hv := n.var_z1 j
  have hm := n.mean_z1 j
  have e4 : ((∑ i, n.w1 j i * n.f i t : ℝ) : EReal) + ((n.b1 j : ℝ) : EReal) = ((n.z1 j t : ℝ) : EReal) := (EReal.coe_add _ _).symm
  rw [e4, ← EReal.coe_mul, ← EReal.coe_mul, ← EReal.coe_mul, ← EReal.coe_add, ← EReal.coe_sub _ (_ * _), ← hv, ← hm]
  exact norm_coe _ _ _ _ _ (var_nonneg _)

/-- One element of the second layer. -/
theorem second_num (n : Net) (l : Fin 32) (t : ℕ) (w h : Fin 64 → EReal) (b : EReal) (hw : ∀ j, w j = ((n.w2 l j : ℝ) : EReal))
    (hh : ∀ j, h j = ((n.hid j t : ℝ) : EReal)) (hb : b = ((n.b2 l : ℝ) : EReal)) :
    ∑ j, w j * h j + b = ((n.z2 l t : ℝ) : EReal) := by
  simp only [hw, hh, hb, Net.z2, EReal.coe_add, coe_sum, EReal.coe_mul]

/-- One element of the averaged tile. -/
theorem avg_num (n : Net) (t : ℕ) (z g be : Fin 32 → EReal) (s q : Fin 32 → Fin 128 → EReal) (hz : ∀ l, z l = ((n.z2 l t : ℝ) : EReal))
    (hg : ∀ l, g l = ((n.g2 l : ℝ) : EReal)) (hbe : ∀ l, be l = ((n.be2 l : ℝ) : EReal))
    (hs : ∀ l y, s l y = ((∑ k ∈ Finset.range 8, ∑ x : Fin 64, n.z2 l (8192 * k + (x.val * 128 + y.val)) : ℝ) : EReal))
    (hq : ∀ l y, q l y = ((∑ k ∈ Finset.range 8, ∑ x : Fin 64, n.z2 l (8192 * k + (x.val * 128 + y.val)) * n.z2 l (8192 * k + (x.val * 128 + y.val)) : ℝ) : EReal)) :
    (∑ l, max (Ideal.div (g l * (z l - (∑ y, s l y) * Ideal.ofBits .f32 0x37800000#32))
      (Ideal.sqrt ((∑ y, q l y) * Ideal.ofBits .f32 0x37800000#32
        - (∑ y, s l y) * Ideal.ofBits .f32 0x37800000#32 * ((∑ y, s l y) * Ideal.ofBits .f32 0x37800000#32)
        + Ideal.ofBits .f32 0x3727C5AC#32)) + be l) 0) * Ideal.ofBits .f32 0x3D000000#32 = ((n.avg t : ℝ) : EReal) := by
  have e1 : ∀ l, (∑ y, s l y) * Ideal.ofBits .f32 0x37800000#32 = ((mean (n.z2 l) : ℝ) : EReal) := fun l => by
    rw [Finset.sum_congr rfl fun y _ => hs l y, ← coe_sum, sum_lanes (n.z2 l), inv_len, ← EReal.coe_mul, mean, mul_one_div]
  have e2 : ∀ l, (∑ y, q l y) * Ideal.ofBits .f32 0x37800000#32 = (((∑ t ∈ Finset.range 65536, n.z2 l t * n.z2 l t) / 65536 : ℝ) : EReal) := fun l => by
    rw [Finset.sum_congr rfl fun y _ => hq l y, ← coe_sum, sum_lanes (fun t => n.z2 l t * n.z2 l t), inv_len, ← EReal.coe_mul, mul_one_div]
  have e3 : ∀ l, max (Ideal.div (g l * (z l - (∑ y, s l y) * Ideal.ofBits .f32 0x37800000#32))
      (Ideal.sqrt ((∑ y, q l y) * Ideal.ofBits .f32 0x37800000#32
        - (∑ y, s l y) * Ideal.ofBits .f32 0x37800000#32 * ((∑ y, s l y) * Ideal.ofBits .f32 0x37800000#32)
        + Ideal.ofBits .f32 0x3727C5AC#32)) + be l) 0 = ((n.act l t : ℝ) : EReal) := fun l => by
    rw [e1, e2, hz, hg, hbe, eps_coe, ← EReal.coe_mul (mean _), ← EReal.coe_sub (_ / _), ← var_eq]
    exact norm_coe _ _ _ _ _ (var_nonneg _)
  rw [Finset.sum_congr rfl fun l _ => e3 l, ← coe_sum, inv_units, ← EReal.coe_mul, Net.avg, mul_one_div]

/-- The mean of a step and the one before it, masked. -/
theorem out_num (n : Net) (t : ℕ) (a b k : EReal) (ha : a = ((n.avg t : ℝ) : EReal)) (hb : b = ((n.avg (t - 1) : ℝ) : EReal)) :
    (a + b) * Ideal.ofBits .f32 0x3F000000#32 * k = ((n.out t : ℝ) : EReal) * k := by
  rw [ha, hb, half, ← EReal.coe_add, ← EReal.coe_mul, Net.out, mul_one_div]

/-- A running sum and one more term. -/
theorem acc_num (S : ℝ) (r : EReal) (hr : r = (S : EReal)) (x : Fin 64 → EReal) (x' : Fin 64 → ℝ) (hx : ∀ i, x i = ((x' i : ℝ) : EReal)) :
    r + ∑ i, x i = ((S + ∑ i, x' i : ℝ) : EReal) := by
  rw [hr, Finset.sum_congr rfl fun i _ => hx i, ← coe_sum, EReal.coe_add]

end Cert.KernelIdeal.Run

end
-- ==== Proof.KI.Value.lean ====
module

public import proofs.«01_k».proof.Proof.KI.Numbers

@[expose] public section

set_option maxRecDepth 16384

noncomputable section

namespace Cert.KernelIdeal.Run

open Idealize.ShloMosaic Idealize.ShloMosaic.TcCoe
open Cert.KernelIdeal.Gen Cert.Math

variable (m : (ℓ : Loc nD τ sig) → Buf (Elt Ideal) ℓ) (c : Dev nD) (n : Net)

/-! ## The kernel's tiles on finite inputs -/

/-- Point `j`'s number. -/
theorem pt_mod (j : ℕ) (hj : j < 16) : (pt j).val = j := Nat.mod_eq_of_lt hj

/-- The first tile takes the first of the two values. -/
theorem pick_first (a b : EReal) : Scalar.select (Scalar.cmpi .eq (BitVec.ofNat 32 0) 0#32) a b = a := rfl

/-- A later tile takes the second of the two values. -/
theorem pick_later (k : ℕ) (h0 : 0 < k) (h : k < 8) (a b : EReal) : Scalar.select (Scalar.cmpi .eq (BitVec.ofNat 32 k) 0#32) a b = b := by
  interval_cases k <;> rfl

/-- The moments' window read for the products. -/
theorem win_mom (x : FVec Ideal S8x128 .f32) (i k : Fin 8) :
    (VecWindow.window x ![0, 0] S8x8.size inb_S8x128_S8x8_0_0 : FVec Ideal S8x8 .f32) (ix2 i k) = x (ix2 i ⟨k.val, by omega⟩) := by
  refine congrArg x (funext fun a => Fin.ext ?_)
  match a with
  | 0 => show 0 + 1 * i.val = i.val; omega
  | 1 => show 0 + 1 * k.val = k.val; omega

/-- The moments' window read for the sums. -/
theorem win_sum (x : FVec Ideal S8x128 .f32) (i : Fin 8) :
    (VecWindow.window x ![0, 8] S8x1.size inb_S8x128_S8x1_0_8 : FVec Ideal S8x1 .f32) (ix2 i 0) = x (ix2 i 8) := by
  refine congrArg x (funext fun a => Fin.ext ?_)
  match a with
  | 0 => show 0 + 1 * i.val = i.val; omega
  | 1 => rfl

variable
  (H : Holds n (m (c.tc.loc main_arg0)) (m (c.tc.loc main_arg2)) (m (c.tc.loc main_arg3)) (m (c.tc.loc main_arg4)) (m (c.tc.loc main_arg5))
    (m (c.tc.loc main_arg6)) (m (c.tc.loc main_arg7)) (m (c.tc.loc main_arg8)) (m (c.tc.loc main_arg9)) (m (c.tc.loc main_arg10)))
include H

/-- The hidden layer's tile `k`. -/
theorem hT_val (k : ℕ) (hk : k < 8) (j : Fin 64) (y : Fin 8192) :
    (hT m c k : FVec Ideal S64x8192 .f32) (ix2 j y) = ((n.hid j (8192 * k + y.val) : ℝ) : EReal) := by
  have hp : (pt k).val % 8 = k := by rw [pt_mod k (by omega)]; omega
  pointwise [hT, hidden, k0_pay9, invT]
  refine hidden_num n j _ (fun i => (iblk m c 3 (pt k) : FVec Ideal S64x8 .f32) (ix2 j i)) (fun i => (iblk m c 0 (pt k) : FVec Ideal S8x8192 .f32) (ix2 i y))
    (fun i => (VecWindow.window (iblk m c 2 (pt k)) ![0, 8] S8x1.size inb_S8x128_S8x1_0_8 : FVec Ideal S8x1 .f32) (ix2 i 0))
    (fun i k' => (VecWindow.window (iblk m c 2 (pt k)) ![0, 0] S8x8.size inb_S8x128_S8x8_0_0 : FVec Ideal S8x8 .f32) (ix2 i k'))
    _ _ _ (fun i => ?_) (fun i hi => ?_) (fun i => ?_) (fun i => ?_) (fun i l => ?_) ?_ ?_ ?_
  · exact (read3 m c _ _ _).trans ((V_w1 m c j _ i.isLt).trans (H.w1 j i))
  · exact (read3 m c _ _ _).trans (V_w1_pad m c j i hi)
  · refine (read0 m c _ _ _).trans ((H.f i _).trans ?_)
    simp only [hp]
  · exact (win_sum _ _).trans ((read2 m c _ _ _).trans ((congrFun (V_main_arg2 m c) _).trans (H.sum i)))
  · exact (win_mom _ _ _).trans ((read2 m c _ _ _).trans ((congrFun (V_main_arg2 m c) _).trans (H.mom i l)))
  · exact (read4 m c _ _ _).trans ((V_v1 m c j).trans (H.b1 j))
  · exact (read5 m c _ _ _).trans ((V_v2 m c j).trans (H.g1 j))
  · exact (read6 m c _ _ _).trans ((V_v3 m c j).trans (H.be1 j))

/-- The second layer's tile `k`. -/
theorem z2T_val (k : ℕ) (hk : k < 8) (l : Fin 32) (y : Fin 8192) :
    (z2T m c k : FVec Ideal S32x8192 .f32) (ix2 l y) = ((n.z2 l (8192 * k + y.val) : ℝ) : EReal) := by
  pointwise [z2T, k0_pay4, k0_pay3]
  exact second_num n l _ _ _ _ (fun j => (read7 m c _ _ _).trans (H.w2 l j)) (fun j => hT_val m c n H k hk j y)
    ((read8 m c _ _ _).trans ((V_v4 m c l).trans (H.b2 l)))

/-- The running sums after `k` tiles. -/
theorem sumS_val (k : ℕ) (hk : k ≤ 8) (l : Fin 32) (y : Fin 128) : (sumS m c k : FVec Ideal S32x128 .f32) (ix2 l y)
    = ((∑ k ∈ Finset.range k, ∑ x : Fin 64, n.z2 l (8192 * k + (x.val * 128 + y.val)) : ℝ) : EReal) := by
  induction k with
  | zero =>
    rw [Finset.range_zero, Finset.sum_empty]
    pointwise [sumS, k0_pay1]
    exact EReal.coe_zero.symm
  | succ k ih =>
    rw [Finset.sum_range_succ]
    have h := ih (by omega)
    pointwise [sumS, k0_pay5, k0_pay4, k0_pay3]
    exact acc_num _ _ h _ _ fun x => second_num n l _ _ _ _ (fun j => (read7 m c _ _ _).trans (H.w2 l j)) (fun j => hT_val m c n H k (by omega) j _)
      ((read8 m c _ _ _).trans ((V_v4 m c l).trans (H.b2 l)))

/-- The running sums of squares after `k` tiles. -/
theorem sumQ_val (k : ℕ) (hk : k ≤ 8) (l : Fin 32) (y : Fin 128) : (sumQ m c k : FVec Ideal S32x128 .f32) (ix2 l y)
    = ((∑ k ∈ Finset.range k, ∑ x : Fin 64, n.z2 l (8192 * k + (x.val * 128 + y.val)) * n.z2 l (8192 * k + (x.val * 128 + y.val)) : ℝ) : EReal) := by
  induction k with
  | zero =>
    rw [Finset.range_zero, Finset.sum_empty]
    pointwise [sumQ, k0_pay2]
    exact EReal.coe_zero.symm
  | succ k ih =>
    rw [Finset.sum_range_succ]
    have h := ih (by omega)
    have hz := fun (x : Fin 64) => second_num n l (8192 * k + (x.val * 128 + y.val)) _ _ _ (fun j => (read7 m c (pt k) _ _).trans (H.w2 l j))
      (fun j => hT_val m c n H k (by omega) j ⟨x.val * 128 + y.val, by omega⟩) ((read8 m c (pt k) _ _).trans ((V_v4 m c l).trans (H.b2 l)))
    pointwise [sumQ, k0_pay6, k0_pay4, k0_pay3]
    exact acc_num _ _ h _ _ fun x => (congrArg₂ (fun a b : EReal => a * b) (hz x) (hz x)).trans (EReal.coe_mul _ _).symm

/-- The averaged tile `k`. -/
theorem combT_val (k : ℕ) (hk : k < 8) (y : Fin 8192) :
    (combT m c k : FVec Ideal S1x8192 .f32) (ix2 0 y) = ((n.avg (8192 * k + y.val) : ℝ) : EReal) := by
  pointwise [combT, comb, k0_pay10, invT]
  exact avg_num n _ _ _ _ (fun l y => (sumS m c 8 : FVec Ideal S32x128 .f32) (ix2 l y)) (fun l y => (sumQ m c 8 : FVec Ideal S32x128 .f32) (ix2 l y))
    (fun l => z2T_val m c n H k hk l y)
    (fun l => (read9 m c _ _ _).trans ((V_v5 m c l).trans (H.g2 l))) (fun l => (read10 m c _ _ _).trans ((V_v6 m c l).trans (H.be2 l)))
    (fun l y => sumS_val m c n H 8 le_rfl l y) (fun l y => sumQ_val m c n H 8 le_rfl l y)

/-- The output tile `k`. -/
theorem outT_val (k : ℕ) (hk : k < 8) (y : Fin 8192) : (outT m c k : FVec Ideal S1x8192 .f32) (ix2 0 y)
    = ((n.out (8192 * k + y.val) : ℝ) : EReal) * (m (c.tc.loc main_arg1) : FVec Ideal S1x65536 .f32) (ix2 0 ⟨8192 * k + y.val, by omega⟩) := by
  have hp : (pt (8 + k)).val % 8 = k := by rw [pt_mod _ (by omega)]; omega
  have hc : (grid0.coords (pt (8 + k)) 1).val = k := (coord1 _).trans hp
  have hm : (iblk m c 1 (pt (8 + k)) : FVec Ideal S1x8192 .f32) (ix2 0 y) = (m (c.tc.loc main_arg1) : FVec Ideal S1x65536 .f32) (ix2 0 ⟨8192 * k + y.val, by omega⟩) := by
    refine (read1 m c _ _ _).trans ?_
    simp only [hp]
  rw [← hm]
  pointwise [outT, outTile, k0_pay7, k0_pay11, k0_pay12, k0_pay8]
  refine out_num n _ _ _ _ (combT_val m c n H k hk y) ?_
  split
  · next h =>
    have hy : y.val = 0 := by omega
    rw [hc]
    rcases Nat.eq_zero_or_pos k with h0 | h0
    · subst h0
      refine (pick_first _ _).trans ((combT_val m c n H 0 hk y).trans ?_)
      rw [show 8192 * 0 + y.val - 1 = 8192 * 0 + y.val by omega]
    · refine (pick_later k h0 hk _ _).trans ((combT_val m c n H (k - 1) (by omega) ⟨8191 + y.val, by omega⟩).trans ?_)
      rw [show 8192 * k + y.val - 1 = 8192 * (k - 1) + (8191 + y.val) by omega]
  · next h =>
    refine (combT_val m c n H k hk ⟨y.val - 1, by omega⟩).trans ?_
    rw [show 8192 * k + y.val - 1 = 8192 * k + (y.val - 1) by omega]

end Cert.KernelIdeal.Run

end
-- ==== Proof.Math.Cumsum.lean ====
module

public import proofs.«01_k».proof.Proof.Math.Net

@[expose] public section

set_option maxRecDepth 16384

noncomputable section

namespace Cert.Math

open Idealize.ShloMosaic

/-! ## A running sum -/

/-- A left fold that adds up real numbers. -/
theorem foldl_add_coe {ι : Type} (g : ι → EReal) (f : ι → ℝ) (hg : ∀ n, g n = ((f n : ℝ) : EReal)) :
    ∀ (l : List ι) (a : ℝ), l.foldl (fun r n => r + g n) (a : EReal) = ((a + (l.map f).sum : ℝ) : EReal)
  | [], a => by simp
  | n :: l, a => by
    rw [List.foldl_cons, hg, ← EReal.coe_add, foldl_add_coe g f hg l, List.map_cons, List.sum_cons, add_assoc]

/-- The part of a window of `p + 1` places, ending at place `j`, that lies in the sequence adds up its first `j + 1` terms. -/
theorem sum_window (f : ℕ → ℝ) (p j : ℕ) (hj : j ≤ p) :
    ∑ n ∈ Finset.range (p + 1), (if p ≤ j + n then f (j + n - p) else 0) = ∑ i ∈ Finset.range (j + 1), f i := by
  rw [show p + 1 = (p - j) + (j + 1) by omega, Finset.sum_range_add, Finset.sum_eq_zero, zero_add]
  · refine Finset.sum_congr rfl fun i _ => ?_
    rw [if_pos (by omega), show j + (p - j + i) - p = i by omega]
  · intro i hi
    rw [Finset.mem_range] at hi
    rw [if_neg (by omega)]

/-- The host's running sum of real numbers: the entry at `j` is the sum of the first `j + 1` terms. -/
theorem cumsum_coe (p : ℕ) (x : FVec Ideal ⟨1, ![p + 1]⟩ .f32) (f : ℕ → ℝ) (hx : ∀ i : Fin (p + 1), x (ix1 i) = ((f i.val : ℝ) : EReal))
    (init : FVec Ideal ⟨0, ![]⟩ .f32) (hi : ∀ i, init i = 0)
    (h : (⟨1, ![p + 1]⟩ : Shape).ReduceWindows (![p + 1] : Fin 1 → Nat) ![1] ![p] ![0] ⟨1, ![p + 1]⟩) (hu : 0 < (⟨0, ![]⟩ : Shape).numel) (j : Fin (p + 1)) :
    Host.reduceWindowAdd (F := Ideal) (φ := .f32) ![p + 1] ![1] ![p] ![0] x init h hu (ix1 j)
      = ((∑ i ∈ Finset.range (j.val + 1), f i : ℝ) : EReal) := by
  have hj := j.isLt
  have hM : (⟨1, ![p + 1]⟩ : Shape).numel = p + 1 := Shape.numel_rank1 _
  have hsymm : ∀ n : Fin (⟨1, ![p + 1]⟩ : Shape).numel, ((⟨1, ![p + 1]⟩ : Shape).rowMajor.symm n 0).val = n.val := fun n => by
    have e := congrArg Fin.val ((⟨1, ![p + 1]⟩ : Shape).rowMajor.apply_symm_apply n)
    rw [Shape.rowMajor_val_one] at e
    exact e
  refine Eq.trans (b := ((List.finRange (⟨1, ![p + 1]⟩ : Shape).numel).foldl (fun r n =>
      r + (fun n : Fin (⟨1, ![p + 1]⟩ : Shape).numel => (((if p ≤ j.val + n.val then f (j.val + n.val - p) else 0) : ℝ) : EReal)) n) ((0 : ℝ) : EReal))) ?_ ?_
  · show Host.reduceWindow (· + ·) ![p + 1] ![1] ![p] ![0] x (fun _ : (⟨0, ![]⟩ : Shape).Idx => init (Shape.Idx.first hu)) h hu (ix1 j) = _
    unfold Host.reduceWindow
    simp only [hi]
    rw [EReal.coe_zero]
    refine congrArg (fun F => List.foldl F (0 : EReal) _) (funext fun r => funext fun n => congrArg (r + ·) ?_)
    have hn : n.val < p + 1 := lt_of_lt_of_eq n.isLt hM
    split
    · next hin =>
      have h0 := hin 0
      change p ≤ j.val * 1 + ((⟨1, ![p + 1]⟩ : Shape).rowMajor.symm n 0).val
        ∧ j.val * 1 + ((⟨1, ![p + 1]⟩ : Shape).rowMajor.symm n 0).val - p < p + 1 at h0
      rw [hsymm] at h0
      rw [if_pos (by omega)]
      refine (congrArg x (funext fun a => Fin.ext ?_)).trans (hx ⟨j.val + n.val - p, by omega⟩)
      match a with
      | ⟨0, _⟩ =>
        show j.val * 1 + ((⟨1, ![p + 1]⟩ : Shape).rowMajor.symm n 0).val - p = j.val + n.val - p
        rw [hsymm, Nat.mul_one]
    · next hin =>
      rw [if_neg fun hle => hin fun a => by
        match a with
        | ⟨0, _⟩ =>
          show p ≤ j.val * 1 + ((⟨1, ![p + 1]⟩ : Shape).rowMajor.symm n 0).val
            ∧ j.val * 1 + ((⟨1, ![p + 1]⟩ : Shape).rowMajor.symm n 0).val - p < p + 1
          rw [hsymm]
          omega, EReal.coe_zero]
  · rw [foldl_add_coe _ _ (fun _ => rfl), zero_add, ← Fin.sum_univ_def,
      Fin.sum_univ_eq_sum_range (fun n => if p ≤ j.val + n then f (j.val + n - p) else 0), hM, sum_window f p j.val (by omega)]

end Cert.Math

end
-- ==== Proof.Math.RefValue.lean ====
module

public import proofs.«01_k».proof.Proof.Math.Pre
public import proofs.«01_k».proof.Proof.Math.Cumsum
public import proofs.«01_k».proof.Proof.Gen.ReferenceIdeal.Run

@[expose] public section

set_option maxRecDepth 16384

noncomputable section

namespace Cert.ReferenceIdeal.Value

open Idealize.ShloMosaic Idealize.ShloMosaic.TcCoe Idealize.ShloMosaic.StableHlo
open Cert.ReferenceIdeal.Gen Cert.Math

/-! ## The reference's result, step by step -/

/-- The mean over the time steps in the reference's operations. -/
theorem mean_steps (X : Fin 65536 → EReal) (z : ℕ → ℝ) (h : ∀ t : Fin 65536, X t = ((z t.val : ℝ) : EReal)) :
    Ideal.div (∑ t, X t) (Ideal.ofBits .f32 0x47800000#32) = ((mean z : ℝ) : EReal) := by
  rw [Finset.sum_congr rfl fun t _ => h t, ← coe_sum, Fin.sum_univ_eq_sum_range z 65536, len, div_coe _ (by norm_num)]
  rfl

/-- The variance over the time steps in the reference's operations. -/
theorem var_steps (X : Fin 65536 → EReal) (z : ℕ → ℝ) (h : ∀ t : Fin 65536, X t = ((z t.val - mean z : ℝ) : EReal)) :
    Ideal.div (∑ t, X t * X t) ((65536 : ℝ) : EReal) = ((var z : ℝ) : EReal) := by
  rw [Finset.sum_congr rfl fun t _ => by rw [h t, ← EReal.coe_mul], ← coe_sum,
    Fin.sum_univ_eq_sum_range (fun t => (z t - mean z) * (z t - mean z)) 65536, div_coe _ (by norm_num)]
  rfl

/-- A layer in the reference's operations. -/
theorem layer {k : ℕ} (x w : Fin k → EReal) (b : EReal) (xr wr : Fin k → ℝ) (br : ℝ) (hx : ∀ i, x i = ((xr i : ℝ) : EReal))
    (hw : ∀ i, w i = ((wr i : ℝ) : EReal)) (hb : b = ((br : ℝ) : EReal)) :
    ∑ i, x i * w i + b = ((∑ i, wr i * xr i + br : ℝ) : EReal) := by
  rw [EReal.coe_add, coe_sum, hb, Finset.sum_congr rfl fun i _ => by rw [hx, hw, ← EReal.coe_mul, mul_comm]]

/-- Half the difference of two running sums, under the mask. -/
theorem smoothed (x y k : EReal) (xr yr : ℝ) (hx : x = ((xr : ℝ) : EReal)) (hy : y = ((yr : ℝ) : EReal)) :
    Ideal.div (x - y) (Ideal.ofBits .f32 0x40000000#32) * k = (((xr - yr) / 2 : ℝ) : EReal) * k := by
  rw [hx, hy, two, ← EReal.coe_sub, div_coe _ (by norm_num)]

/-- A normalised unit in the reference's operations: `X` its values at all time steps, `D` their deviations, `cnt` the number of steps. -/
theorem unit (g be cnt nan : EReal) (X D : Fin 65536 → EReal) (z : ℕ → ℝ) (gr ber : ℝ) [Decidable (0 < cnt)]
    (hg : g = ((gr : ℝ) : EReal)) (hbe : be = ((ber : ℝ) : EReal)) (hc : cnt = ((65536 : ℝ) : EReal))
    (hX : ∀ t : Fin 65536, X t = ((z t.val : ℝ) : EReal)) (hD : ∀ t : Fin 65536, D t = ((z t.val - mean z : ℝ) : EReal)) (t : Fin 65536) :
    max (Ideal.div (g * (X t - Ideal.div (∑ t, X t) (Ideal.ofBits .f32 0x47800000#32)))
      (Ideal.sqrt ((if 0 < cnt then Ideal.div (∑ t, D t * D t) cnt else nan) + Ideal.ofBits .f32 0x3727C5AC#32)) + be) 0
      = ((norm gr ber (mean z) (var z) (z t.val) : ℝ) : EReal) := by
  have hpos : 0 < cnt := by rw [hc]; exact_mod_cast (by norm_num : (0 : ℝ) < 65536)
  rw [if_pos hpos, mean_steps X z hX, hc, var_steps D z hD, hg, hbe, hX, eps_coe]
  exact norm_coe gr ber (mean z) (var z) (z t.val) (var_nonneg z)

section
variable (V0 : Valuation τ sig (Elt Ideal)) (n : Net)

/-- The number of time steps less the zero that the reference's variance takes off it. -/
theorem count0 : (res_main_call0_v8 V0 : FVec Ideal S_ .f32) ix0 = ((65536 : ℝ) : EReal) := by
  pointwise [res_main_call0_v8]
  have h : Ideal.ofBits .f32 0x47800000#32 - (((0#32 : BitVec 32).toInt : ℝ) : EReal) = ((65536 : ℝ) : EReal) := by
    rw [len]; simp
  exact h

/-- The same at the second layer. -/
theorem count1 : (res_main_call1_v8 V0 : FVec Ideal S_ .f32) ix0 = ((65536 : ℝ) : EReal) := count0 V0

variable
  (H : Holds n (V0 (Proc.devRef .tc main_arg0)) (V0 (Proc.devRef .tc main_arg2)) (V0 (Proc.devRef .tc main_arg3)) (V0 (Proc.devRef .tc main_arg4))
    (V0 (Proc.devRef .tc main_arg5)) (V0 (Proc.devRef .tc main_arg6)) (V0 (Proc.devRef .tc main_arg7)) (V0 (Proc.devRef .tc main_arg8))
    (V0 (Proc.devRef .tc main_arg9)) (V0 (Proc.devRef .tc main_arg10)))
include H

/-- The first layer. -/
theorem first_layer (t : Fin 65536) (j : Fin 64) : (res_main_v6 V0 : FVec Ideal S65536x64 .f32) (ix2 t j) = ((n.z1 j t.val : ℝ) : EReal) := by
  pointwise [res_main_v6]
  exact layer _ _ _ _ _ _ (fun i => H.f i t) (fun i => H.w1 j i) (H.b1 j)

/-- The first layer's deviations from its mean. -/
theorem first_dev (t : Fin 65536) (j : Fin 64) :
    (res_main_call0_v5 V0 : FVec Ideal S65536x64 .f32) (ix2 t j) = ((n.z1 j t.val - mean (n.z1 j) : ℝ) : EReal) := by
  pointwise [res_main_call0_v5]
  have e := congrArg₂ (fun a b : EReal => a - b) (first_layer V0 n H t j) (mean_steps _ (n.z1 j) fun t => first_layer V0 n H t j)
  exact e.trans (EReal.coe_sub _ _).symm

/-- The second layer. -/
theorem second_layer (t : Fin 65536) (l : Fin 32) : (res_main_v32 V0 : FVec Ideal S65536x32 .f32) (ix2 t l) = ((n.z2 l t.val : ℝ) : EReal) := by
  pointwise [res_main_v32]
  refine layer _ _ _ _ _ _ (fun j => ?_) (fun j => H.w2 l j) (H.b2 l)
  exact unit _ _ _ _ (fun x => (res_main_v6 V0 : FVec Ideal S65536x64 .f32) (ix2 x j)) (fun x => (res_main_call0_v5 V0 : FVec Ideal S65536x64 .f32) (ix2 x j))
    (n.z1 j) _ _ (H.g1 j) (H.be1 j) (count0 V0) (fun t => first_layer V0 n H t j) (fun t => first_dev V0 n H t j) t

/-- The second layer's deviations from its mean. -/
theorem second_dev (t : Fin 65536) (l : Fin 32) :
    (res_main_call1_v5 V0 : FVec Ideal S65536x32 .f32) (ix2 t l) = ((n.z2 l t.val - mean (n.z2 l) : ℝ) : EReal) := by
  pointwise [res_main_call1_v5]
  have e := congrArg₂ (fun a b : EReal => a - b) (second_layer V0 n H t l) (mean_steps _ (n.z2 l) fun t => second_layer V0 n H t l)
  exact e.trans (EReal.coe_sub _ _).symm

/-- The mean of the output units. -/
theorem averaged (t : Fin 65536) : (res_main_v56 V0 : FVec Ideal S65536 .f32) (ix1 t) = ((n.avg t.val : ℝ) : EReal) := by
  have hu : ∀ l : Fin 32, _ = ((n.act l t.val : ℝ) : EReal) := fun l =>
    unit _ _ _ ((id (constant (F := Ideal) S_ .f32 0x7FC00000#32) : FVec Ideal S_ .f32) ix0)
      (fun x => (res_main_v32 V0 : FVec Ideal S65536x32 .f32) (ix2 x l)) (fun x => (res_main_call1_v5 V0 : FVec Ideal S65536x32 .f32) (ix2 x l))
      (n.z2 l) _ _ (H.g2 l) (H.be2 l) (count1 V0) (fun t => second_layer V0 n H t l) (fun t => second_dev V0 n H t l) t
  have hs := congrArg (fun a : EReal => Ideal.div a (Ideal.ofBits .f32 0x42000000#32)) (Finset.sum_congr (rfl : (Finset.univ : Finset (Fin 32)) = _) fun l _ => hu l)
  pointwise [res_main_v56]
  refine Eq.trans ?_ (hs.trans ?_)
  · rfl
  · show Ideal.div (∑ l : Fin 32, ((n.act l t.val : ℝ) : EReal)) (Ideal.ofBits .f32 0x42000000#32) = _
    rw [← coe_sum, units, div_coe _ (by norm_num)]
    rfl

/-- The averaged sequence with its first term twice. -/
def twice (a : ℕ → ℝ) (i : ℕ) : ℝ := a (i - 1)

/-- The running sum with a zero before it. -/
theorem running (k : Fin 65538) :
    (res_main_v63 V0 : FVec Ideal S65538 .f32) (ix1 k) = ((∑ i ∈ Finset.range k.val, twice n.avg i : ℝ) : EReal) := by
  pointwise [res_main_v63]
  split
  · next h =>
    rw [show k.val = 0 by omega, Finset.range_zero, Finset.sum_empty]
    exact EReal.coe_zero.symm
  · next h =>
    refine (cumsum_coe 65536 _ (twice n.avg) (fun i => ?_) _ (fun i => ?_) _ _ ⟨k.val - 1, by omega⟩).trans ?_
    · pointwise
      split
      · next h =>
        refine (averaged V0 n H _).trans ?_
        simp only [twice]
        rw [show i.val = 0 by omega]
        rfl
      · next h => exact averaged V0 n H _
    · pointwise
    · dsimp only
      rw [show k.val - 1 + 1 = k.val by omega]

/-- The reference's result at step `t`. -/
theorem result (t : Fin 65536) :
    (broadcastInDim S1x65536 ![1] bcast_S65536_S1x65536_1 (mulf (Host.divf (subf (extractStridedSlice S65536 ![2] (res_main_v63 V0) slices_S65538_S65536_2) (extractStridedSlice S65536 ![0] (res_main_v63 V0) slices_S65538_S65536_0)) (broadcastInDim S65536 ![] bcast_S_S65536 (constant S_ .f32 0x40000000#32))) (shapeCast _ (V0 (Proc.devRef .tc main_arg1)) shapeCasts_S1x65536_S65536)) : FVec Ideal S1x65536 .f32) (ix2 0 t)
      = ((n.out t.val : ℝ) : EReal) * (V0 (Proc.devRef .tc main_arg1) : FVec Ideal S1x65536 .f32) (ix2 0 t) := by
  have h : (∑ i ∈ Finset.range (2 + t.val), twice n.avg i - ∑ i ∈ Finset.range t.val, twice n.avg i) / 2 = n.out t.val := by
    rw [Nat.add_comm, Finset.sum_range_succ, Finset.sum_range_succ]
    show (∑ i ∈ Finset.range t.val, twice n.avg i + n.avg (t.val - 1) + n.avg (t.val + 1 - 1) - ∑ i ∈ Finset.range t.val, twice n.avg i) / 2 = (n.avg t.val + n.avg (t.val - 1)) / 2
    rw [Nat.add_sub_cancel]
    ring
  rw [← h]
  pointwise
  exact smoothed _ _ _ _ _ (running V0 n H ⟨2 + t.val, by omega⟩) (running V0 n H ⟨t.val, by omega⟩)

end

end Cert.ReferenceIdeal.Value

end
-- ==== Proof.Math.Value.lean ====
module

public import proofs.«01_k».proof.Defs
public import proofs.«01_k».proof.Proof.KI.Value
public import proofs.«01_k».proof.Proof.Math.RefValue
public import proofs.«01_k».proof.Proof.Gen.Pre_moments_of_finite

@[expose] public section

set_option maxRecDepth 16384

noncomputable section

namespace Cert.Math

open Idealize.ShloMosaic Idealize.ShloMosaic.TcCoe Idealize.SL.Sem

/-! ## The kernel's result is the reference's -/

/-- The numbers that the launch memory of device `c` holds. -/
def launchNet (m : (ℓ : Loc Cert.KernelIdeal.nD Cert.KernelIdeal.τ Cert.KernelIdeal.sig) → Buf (Elt Ideal) ℓ) (c : Dev Cert.KernelIdeal.nD) : Net :=
  netOf (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))

/-- The common result: each step's smoothed average times the mask. -/
def common (m : (ℓ : Loc Cert.KernelIdeal.nD Cert.KernelIdeal.τ Cert.KernelIdeal.sig) → Buf (Elt Ideal) ℓ) (c : Dev Cert.KernelIdeal.nD) : FVec Ideal ⟨2, ![1, 65536]⟩ .f32 :=
  fun i => (((launchNet m c).out (i 1).val : ℝ) : EReal) * (m ((c.tc : Thread Cert.KernelIdeal.nD Cert.KernelIdeal.τ).loc Cert.KernelIdeal.main_arg1) : FVec Ideal ⟨2, ![1, 65536]⟩ .f32) i

/-- An index of a one-row array is its row's. -/
theorem row_idx (i : (⟨2, ![1, 65536]⟩ : Shape).Idx) (t : Fin 65536) (h : t.val = (i 1).val) : (ix2 0 t : (⟨2, ![1, 65536]⟩ : Shape).Idx) = i := by
  funext a
  apply Fin.ext
  match a with
  | 0 =>
    have h1 : (i 0).val < 1 := (i 0).isLt
    show 0 = (i 0).val
    omega
  | 1 => exact h

/-- The kernel ends with the common result. -/
theorem kernel_value (m : (ℓ : Loc Cert.KernelIdeal.nD Cert.KernelIdeal.τ Cert.KernelIdeal.sig) → Buf (Elt Ideal) ℓ) (c : Dev Cert.KernelIdeal.nD)
    (hp : Cert.Pre_KernelIdeal_moments_of_finite m) (v : FVec Ideal ⟨2, ![1, 65536]⟩ .f32)
    (hv : ∀ (k : ℕ) (_ : k < 8) (y : (⟨2, ![1, 8192]⟩ : Shape).Idx) (i : (⟨2, ![1, 65536]⟩ : Shape).Idx), (i 1).val = 8192 * k + (y 1).val →
      v i = Cert.KernelIdeal.Run.outT m c k y) : v = common m c := by
  funext i
  have hi : (i 1).val < 65536 := (i 1).isLt
  have hm : (i 1).val % 8192 < 8192 := Nat.mod_lt _ (by decide)
  have hk : (i 1).val / 8192 < 8 := by omega
  have e : 8192 * ((i 1).val / 8192) + (i 1).val % 8192 = (i 1).val := Nat.div_add_mod _ _
  refine (hv ((i 1).val / 8192) hk (ix2 0 ⟨(i 1).val % 8192, hm⟩) i e.symm).trans ?_
  refine (Cert.KernelIdeal.Run.outT_val m c (launchNet m c) (holds_of_pre _ _ _ _ _ _ _ _ _ _ _ (hp c)) _ hk _).trans ?_
  have h2 := row_idx i ⟨8192 * ((i 1).val / 8192) + (i 1).val % 8192, by omega⟩ e
  show (((launchNet m c).out (8192 * ((i 1).val / 8192) + (i 1).val % 8192) : ℝ) : EReal) * (m ((c.tc : Thread Cert.KernelIdeal.nD Cert.KernelIdeal.τ).loc Cert.KernelIdeal.main_arg1) : FVec Ideal ⟨2, ![1, 65536]⟩ .f32) _ = _
  rw [h2, e]
  rfl

/-- The claim: the kernel and the reference end with equal results and unchanged arguments. -/
theorem algebraic : Cert.algebraic_KernelIdeal_ReferenceIdeal_pre_moments_of_finite := by
  intro m g m' g' hp ha
  refine ⟨common m, ?_, ?_⟩
  · refine (θ_run _ _ _).mono (fun r h c => ?_) (Cert.KernelIdeal.Run.final m g)
    exact ⟨kernel_value m c hp _ (h.1 c).1, (h.1 c).2⟩
  · refine (θ_run _ _ _).mono (fun r h c => ?_) (Cert.ReferenceIdeal.Value.run (F := Ideal) m' g')
    refine ⟨(h c).1.trans ?_, (h c).2⟩
    obtain ⟨e0, e1, e2, e3, e4, e5, e6, e7, e8, e9, e10⟩ := ha c
    have H : Holds (launchNet m c) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) := by
      rw [e0, e2, e3, e4, e5, e6, e7, e8, e9, e10]
      exact holds_of_pre _ _ _ _ _ _ _ _ _ _ _ (hp c)
    funext i
    have hr := Cert.ReferenceIdeal.Value.result (StableHlo.launchContents m' c) (launchNet m c) H (i 1)
    rw [row_idx i (i 1) rfl] at hr
    refine hr.trans ?_
    exact congrArg (fun x : FVec Ideal ⟨2, ![1, 65536]⟩ .f32 => (((launchNet m c).out (i 1).val : ℝ) : EReal) * x i) e1

end Cert.Math

end
-- ==== Proof.lean ====
/- The proof of the claim: the three frames, the ideal program's agreement with the kernel, and the equality of the kernel's
   one result with the reference's. The frames are `Proof/K/Final.lean` and `Proof/KI/Final.lean` for the two readings of the
   kernel and `Proof/Ref/Frame.lean` for the reference; the value is `Proof/Math/Value.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_moments_of_finite
public import proofs.«01_k».proof.Proof.Gen.ReferenceIdeal.Run
public import proofs.«01_k».proof.Proof.K.Final
public import proofs.«01_k».proof.Proof.KI.Final
public import proofs.«01_k».proof.Proof.Ref.Frame
public import proofs.«01_k».proof.Proof.Math.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_moments_of_finite.Gen.facts,
  fun m g _ => Cert.Kernel.Run.frame m g,
  fun m g _ => Cert.KernelIdeal.Run.frame m g,
  fun m g _ => Cert.KernelIdeal.Run.frame m g,
  fun m g _ => Cert.ReferenceIdeal.Run.frame m g,
  fun m g _ => Cert.ReferenceIdeal.Run.frame m g,
  trivial,
  Cert.Math.algebraic⟩

end Cert.Proof

end
